-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S8x512x256 : Shape := ⟨3, ![8, 512, 256]⟩
abbrev S7 : Shape := ⟨1, ![7]⟩
abbrev S_ : Shape := ⟨0, ![]⟩
abbrev S512x512 : Shape := ⟨2, ![512, 512]⟩
abbrev S512x256 : Shape := ⟨2, ![512, 256]⟩
abbrev S256x256 : Shape := ⟨2, ![256, 256]⟩
abbrev S256x64 : Shape := ⟨2, ![256, 64]⟩
abbrev S1x256x1x64 : Shape := ⟨4, ![1, 256, 1, 64]⟩
abbrev S64x256 : Shape := ⟨2, ![64, 256]⟩
abbrev S256 : Shape := ⟨1, ![256]⟩
abbrev S256x1 : Shape := ⟨2, ![256, 1]⟩
abbrev S1x256x64 : Shape := ⟨3, ![1, 256, 64]⟩
abbrev S1 : Shape := ⟨1, ![1]⟩
abbrev S1x512x256 : Shape := ⟨3, ![1, 512, 256]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x4x64, .bf16⟩
  | .hbm, ⟨3, _⟩ => ⟨S2x256x4x64, .bf16⟩
  | .hbm, ⟨4, _⟩ => ⟨S2048x512, .bf16⟩
  | .hbm, ⟨5, _⟩ => ⟨S2x256x512, .f32⟩
  | .local _ .vmem, ⟨0, _⟩ => ⟨S2x256x512, .bf16⟩
  | .local _ .vmem, ⟨1, _⟩ => ⟨S512x2048, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S2048x512, .bf16⟩
  | .local _ .vmem, ⟨5, _⟩ => ⟨S2x256x512, .f32⟩
  | .local _ .vmem, ⟨6, _⟩ => ⟨S8x512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_31 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v35 : BitVec 32 := Scalar.muli v2 c256_i32
  let v36 : Index := Scalar.indexCast v35
  ![0, v36.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v149 : Index := Scalar.indexCast v2
  let c0_71 : Index := 0#32
  let c0_72 : Index := 0#32
  ![v149.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v177 : Index := Scalar.indexCast v2
  let c0_86 : Index := 0#32
  let c64 : Index := 64#32
  ![v177.toNat, 0, 64]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : Index := Scalar.indexCast v2
  let c0_100 : Index := 0#32
  let c128 : Index := 128#32
  ![v205.toNat, 0, 128]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : Index := Scalar.indexCast v2
  let c0_114 : Index := 0#32
  let c192 : Index := 192#32
  ![v233.toNat, 0, 192]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v261 : Index := Scalar.indexCast v2
  let c256 : Index := 256#32
  let c0_129 : Index := 0#32
  ![v261.toNat, 256, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v289 : Index := Scalar.indexCast v2
  let c256_144 : Index := 256#32
  let c64_145 : Index := 64#32
  ![v289.toNat, 256, 64]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v317 : Index := Scalar.indexCast v2
  let c256_160 : Index := 256#32
  let c128_161 : Index := 128#32
  ![v317.toNat, 256, 128]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v345 : Index := Scalar.indexCast v2
  let c256_176 : Index := 256#32
  let c192_177 : Index := 192#32
  ![v345.toNat, 256, 192]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_184 : BitVec 32 := 0#32
  let c0_i32_185 : BitVec 32 := 0#32
  ![v2.toNat, 0, 0]
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_178 : BitVec 32 := 1#32
  let v349 : BitVec 32 := Scalar.addi v2 c1_i32_178
  let c8_i32_179 : BitVec 32 := 8#32
  let v350 : BitVec 32 := Scalar.remsi v349 c8_i32_179
  let c1_i32_182 : BitVec 32 := 1#32
  let v351 : BitVec 32 := Scalar.muli v350 c1_i32_182
  let v352 : BitVec 32 := Scalar.addi c0_i32_183 v351
  v352.toNat
def k0_dev9 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_188 : BitVec 32 := 2#32
  let v361 : BitVec 32 := Scalar.addi v2 c2_i32_188
  let c8_i32_189 : BitVec 32 := 8#32
  let v362 : BitVec 32 := Scalar.remsi v361 c8_i32_189
  let c1_i32_192 : BitVec 32 := 1#32
  let v363 : BitVec 32 := Scalar.muli v362 c1_i32_192
  let v364 : BitVec 32 := Scalar.addi c0_i32_193 v363
  v364.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_198 : BitVec 32 := 3#32
  let v373 : BitVec 32 := Scalar.addi v2 c3_i32_198
  let c8_i32_199 : BitVec 32 := 8#32
  let v374 : BitVec 32 := Scalar.remsi v373 c8_i32_199
  let c1_i32_202 : BitVec 32 := 1#32
  let v375 : BitVec 32 := Scalar.muli v374 c1_i32_202
  let v376 : BitVec 32 := Scalar.addi c0_i32_203 v375
  v376.toNat
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v385 : BitVec 32 := Scalar.addi v2 c4_i32_208
  let c8_i32_209 : BitVec 32 := 8#32
  let v386 : BitVec 32 := Scalar.remsi v385 c8_i32_209
  let c1_i32_212 : BitVec 32 := 1#32
  let v387 : BitVec 32 := Scalar.muli v386 c1_i32_212
  let v388 : BitVec 32 := Scalar.addi c0_i32_213 v387
  v388.toNat
def k0_dev12 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_218 : BitVec 32 := 5#32
  let v397 : BitVec 32 := Scalar.addi v2 c5_i32_218
  let c8_i32_219 : BitVec 32 := 8#32
  let v398 : BitVec 32 := Scalar.remsi v397 c8_i32_219
  let c1_i32_222 : BitVec 32 := 1#32
  let v399 : BitVec 32 := Scalar.muli v398 c1_i32_222
  let v400 : BitVec 32 := Scalar.addi c0_i32_223 v399
  v400.toNat
def k0_dev13 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_228 : BitVec 32 := 6#32
  let v409 : BitVec 32 := Scalar.addi v2 c6_i32_228
  let c8_i32_229 : BitVec 32 := 8#32
  let v410 : BitVec 32 := Scalar.remsi v409 c8_i32_229
  let c1_i32_232 : BitVec 32 := 1#32
  let v411 : BitVec 32 := Scalar.muli v410 c1_i32_232
  let v412 : BitVec 32 := Scalar.addi c0_i32_233 v411
  v412.toNat
def k0_dev14 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_238 : BitVec 32 := 7#32
  let v421 : BitVec 32 := Scalar.addi v2 c7_i32_238
  let c8_i32_239 : BitVec 32 := 8#32
  let v422 : BitVec 32 := Scalar.remsi v421 c8_i32_239
  let c1_i32_242 : BitVec 32 := 1#32
  let v423 : BitVec 32 := Scalar.muli v422 c1_i32_242
  let v424 : BitVec 32 := Scalar.addi c0_i32_243 v423
  v424.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_248 : BitVec 32 := 256#32
  let v433 : BitVec 32 := Scalar.muli v2 c256_i32_248
  let v434 : Index := Scalar.indexCast v433
  let c0_249 : Index := 0#32
  ![v434.toNat, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v437 : Index := Scalar.indexCast v2
  let c0_250 : Index := 0#32
  let c0_251 : Index := 0#32
  ![v437.toNat, 0, 0]
def k0_off13 (d0 : Dev nD) (c1_i32_261 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v449 : BitVec 32 := Scalar.subi v2 c1_i32_261
  let c8_i32_262 : BitVec 32 := 8#32
  let v450 : BitVec 32 := Scalar.addi v449 c8_i32_262
  let c8_i32_263 : BitVec 32 := 8#32
  let v451 : BitVec 32 := Scalar.remsi v450 c8_i32_263
  let c256_i32_264 : BitVec 32 := 256#32
  let v452 : BitVec 32 := Scalar.muli v451 c256_i32_264
  let v453 : Index := Scalar.indexCast v452
  let c0_265 : Index := 0#32
  ![v453.toNat, 0]
def k0_off14 (d0 : Dev nD) (c1_i32_261 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v449 : BitVec 32 := Scalar.subi v2 c1_i32_261
  let c8_i32_262 : BitVec 32 := 8#32
  let v450 : BitVec 32 := Scalar.addi v449 c8_i32_262
  let c8_i32_263 : BitVec 32 := 8#32
  let v451 : BitVec 32 := Scalar.remsi v450 c8_i32_263
  let v456 : Index := Scalar.indexCast v451
  let c0_266 : Index := 0#32
  let c0_267 : Index := 0#32
  ![v456.toNat, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 146
  | .vmem => 0
  | .smem => 0
  | _ => 0

abbrev hbmTy0_0 (i : Nat) : BufTy := match i % 128 with
  | 0 => ⟨S2x256x512, .bf16⟩
  | 1 => ⟨S512x2048, .bf16⟩
  | 2 => ⟨S2x256x32x64, .bf16⟩
  | 3 => ⟨S2x256x32x64, .bf16⟩
  | 4 => ⟨S2048x512, .bf16⟩
  | 5 => ⟨S2x256x512, .f32⟩
  | 6 => ⟨S512x2048, .f32⟩
  | 7 => ⟨S2x256x2048, .f32⟩
  | 8 => ⟨S2x256x2048, .bf16⟩
  | 9 => ⟨S2x256x32x64, .bf16⟩
  | 10 => ⟨S256, .i32⟩
  | 11 => ⟨S_, .i32⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S256, .i32⟩
  | 20 => ⟨S256, .i32⟩
  | 21 => ⟨S_, .i32⟩
  | 22 => ⟨S256, .i32⟩
  | 23 => ⟨S256, .i1⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S256, .i32⟩
  | 31 => ⟨S_, .i32⟩
  | 32 => ⟨S_, .i32⟩
  | 33 => ⟨S256, .i32⟩
  | 34 => ⟨S256, .i32⟩
  | 35 => ⟨S256, .i32⟩
  | 36 => ⟨S_, .i32⟩
  | 37 => ⟨S256, .i32⟩
  | 38 => ⟨S256, .i1⟩
  | 39 => ⟨S256, .i32⟩
  | 40 => ⟨S256, .i32⟩
  | 41 => ⟨S_, .i32⟩
  | 42 => ⟨S256, .i32⟩
  | 43 => ⟨S256, .i1⟩
  | 44 => ⟨S256, .i1⟩
  | 45 => ⟨S_, .i32⟩
  | 46 => ⟨S256, .i32⟩
  | 47 => ⟨S256, .i32⟩
  | 48 => ⟨S256, .i32⟩
  | 49 => ⟨S1x256, .i32⟩
  | 50 => ⟨S256x256, .i32⟩
  | 51 => ⟨S256x256, .i32⟩
  | 52 => ⟨S256x256, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x256, .i32⟩
  | 60 => ⟨S1x256, .i32⟩
  | 61 => ⟨S_, .i32⟩
  | 62 => ⟨S1x256, .i32⟩
  | 63 => ⟨S1x256, .i1⟩
  | 64 => ⟨S_, .i32⟩
  | 65 => ⟨S1x256, .i32⟩
  | 66 => ⟨S1x256, .i1⟩
  | 67 => ⟨S_, .i32⟩
  | 68 => ⟨S_, .i1⟩
  | 69 => ⟨S1x256, .i1⟩
  | 70 => ⟨S1x256, .i1⟩
  | 71 => ⟨S1x256, .i1⟩
  | 72 => ⟨S1x256, .i32⟩
  | 73 => ⟨S1x256, .i32⟩
  | 74 => ⟨S1x256, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S256x1, .i32⟩
  | 82 => ⟨S256x1, .i32⟩
  | 83 => ⟨S_, .i32⟩
  | 84 => ⟨S256x1, .i32⟩
  | 85 => ⟨S256x1, .i1⟩
  | 86 => ⟨S_, .i32⟩
  | 87 => ⟨S256x1, .i32⟩
  | 88 => ⟨S256x1, .i1⟩
  | 89 => ⟨S_, .i32⟩
  | 90 => ⟨S_, .i1⟩
  | 91 => ⟨S256x1, .i1⟩
  | 92 => ⟨S256x1, .i1⟩
  | 93 => ⟨S256x1, .i1⟩
  | 94 => ⟨S256x1, .i32⟩
  | 95 => ⟨S256x1, .i32⟩
  | 96 => ⟨S256x1, .i32⟩
  | 97 => ⟨S256x256, .i32⟩
  | 98 => ⟨S256x256, .i32⟩
  | 99 => ⟨S256x256, .i1⟩
  | 100 => ⟨S256x256, .i1⟩
  | 101 => ⟨S2x256x32x64, .f32⟩
  | 102 => ⟨S2x256x32x64, .f32⟩
  | 103 => ⟨S2x32x256x256, .f32⟩
  | 104 => ⟨S2x32x256x256, .bf16⟩
  | 105 => ⟨S2x32x256x256, .f32⟩
  | 106 => ⟨S_, .f32⟩
  | 107 => ⟨S2x32x256x256, .f32⟩
  | 108 => ⟨S2x32x256x256, .f32⟩
  | 109 => ⟨S1x1x256x256, .i1⟩
  | 110 => ⟨S_, .f32⟩
  | 111 => ⟨S_, .f32⟩
  | 112 => ⟨S2x32x256x256, .i1⟩
  | 113 => ⟨S2x32x256x256, .f32⟩
  | 114 => ⟨S2x32x256x256, .f32⟩
  | 115 => ⟨S_, .f32⟩
  | 116 => ⟨S2x32x256, .f32⟩
  | 117 => ⟨S2x32x256x1, .f32⟩
  | 118 => ⟨S2x32x256x256, .f32⟩
  | 119 => ⟨S2x32x256x256, .f32⟩
  | 120 => ⟨S2x32x256x256, .f32⟩
  | 121 => ⟨S_, .i1⟩
  | 122 => ⟨S256, .i1⟩
  | 123 => ⟨S1x1x256x1, .i1⟩
  | 124 => ⟨S_, .f32⟩
  | 125 => ⟨S2x32x256, .f32⟩
  | 126 => ⟨S2x32x256x1, .f32⟩
  | 127 => ⟨S_, .f32⟩
  | _ => ⟨S2x256x512, .bf16⟩

abbrev hbmTy0_1 (i : Nat) : BufTy := match i % 128 with
  | 0 => ⟨S_, .f32⟩
  | 1 => ⟨S2x32x256x1, .i1⟩
  | 2 => ⟨S2x32x256x1, .f32⟩
  | 3 => ⟨S2x32x256x1, .f32⟩
  | 4 => ⟨S2x32x256x256, .f32⟩
  | 5 => ⟨S2x32x256x256, .f32⟩
  | 6 => ⟨S1x1x256x1, .i1⟩
  | 7 => ⟨S_, .f32⟩
  | 8 => ⟨S_, .f32⟩
  | 9 => ⟨S2x32x256x256, .i1⟩
  | 10 => ⟨S2x32x256x256, .f32⟩
  | 11 => ⟨S2x32x256x256, .f32⟩
  | 12 => ⟨S2x256x32x64, .f32⟩
  | 13 => ⟨S2x32x64x256, .f32⟩
  | 14 => ⟨S2x256x32x64, .f32⟩
  | 15 => ⟨S2x256x2048, .f32⟩
  | 16 => ⟨S2048x512, .f32⟩
  | 17 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v14 : Ref sig .tc := ⟨.hbm, 74, rfl⟩
abbrev main_c_2 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst_3 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v28 : Ref sig .tc := ⟨.hbm, 114, rfl⟩
abbrev main_cst_4 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_c_5 : Ref sig .tc := ⟨.hbm, 121, rfl⟩
abbrev main_v34 : Ref sig .tc := ⟨.hbm, 122, rfl⟩
abbrev main_v35 : Ref sig .tc := ⟨.hbm, 123, rfl⟩
abbrev main_cst_6 : Ref sig .tc := ⟨.hbm, 124, rfl⟩
abbrev main_v36 : Ref sig .tc := ⟨.hbm, 125, rfl⟩
abbrev main_v37 : Ref sig .tc := ⟨.hbm, 126, rfl⟩
abbrev main_cst_7 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_cst_8 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩

abbrev nD : Nat := 1
abbrev τ : Topo := Topo.v7x

variable {F : FTy → Type} [FloatOps F]
-- ==== Proof.KernelIdeal.Contents.lean ====
/-
The contents the kernel computes with: what each device reads from its five argument arrays, the eight blocks of
its attention context, and the gathered scratch buffer that every device holds once all transfers have landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdx
public import Idealize.ShloMosaic.Lib.Tactic

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The buffers -/

abbrev xM : Memref sig .tc .vmem S2x256x512 .bf16 := Memref.whole cc0_stg0_0
abbrev wqM : Memref sig .tc .vmem S512x2048 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev woM : Memref sig .tc .vmem S2048x512 .bf16 := Memref.whole cc0_stg4_0
abbrev oM : Memref sig .tc .vmem S2x256x512 .f32 := Memref.whole cc0_stg5_0
abbrev gM : Memref sig .tc .vmem S8x512x256 .bf16 := Memref.whole cc0_scratch0

/-- Slot `o` of the scratch buffer: the context of device `o`. -/
abbrev slotM (o : Dev nD) : Memref sig .tc .vmem S512x256 .bf16 :=
  (gM.slice (Rect.unit (s := S8x512x256) (k0_off10 o) S1x512x256.size (k0_off10_inb o)) (fun _ => rfl)).squeeze S512x256 squeezes_S1x512x256_S512x256

/-! ## What a device reads from its arguments -/

/-- The activations, as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The query weights. -/
def wqstg (c : Dev nD) : (cc0_stg1_0 : Ref sig .tc).ty.Contents (Elt F) :=
  (win0_1.blk (0 : Fin 1)).view.read (Elt F) ((s₀ m ρ).mem ((c : Thread nD τ).loc main_arg1))
/-- The device's own heads of the keys. -/
def kstg (c : Dev nD) : (cc0_stg2_0 : Ref sig .tc).ty.Contents (Elt F) :=
  (win0_2.blk (0 : Fin 1)).view.read (Elt F) ((s₀ m ρ).mem ((c : Thread nD τ).loc main_arg2))
/-- The device's own heads of the values. -/
def vstg (c : Dev nD) : (cc0_stg3_0 : Ref sig .tc).ty.Contents (Elt F) :=
  (win0_3.blk (0 : Fin 1)).view.read (Elt F) ((s₀ m ρ).mem ((c : Thread nD τ).loc main_arg3))
/-- The output weights. -/
def wostg (c : Dev nD) : (cc0_stg4_0 : Ref sig .tc).ty.Contents (Elt F) :=
  (win0_4.blk (0 : Fin 1)).view.read (Elt F) ((s₀ m ρ).mem ((c : Thread nD τ).loc main_arg4))

/-! ## The blocks of one device's context -/

/-- The device's query rows: the activations times its 256 columns of the query weights. -/
def qv (c : Dev nD) : FVec F S512x256 .f32 :=
  k0_pay1 ((xM).view.readAt (Elt F) (Rect.unit (s := S2x256x512) ![0, 0, 0] S2x256x512.size inb_S2x256x512_S2x256x512_0_0_0) (xstg m ρ c))
    ((wqM).view.readAt (Elt F) (Rect.unit (s := S512x2048) (k0_off1 c) S512x256.size (k0_off1_inb c)) (wqstg m ρ c))

def mw1 : IVec S256x256 32 := k0_pay6 k0_pay2 k0_pay3 k0_pay4 k0_pay5
def mw2 : IVec S256x256 1 := k0_pay8 k0_pay2 k0_pay3 k0_pay4 k0_pay5
/-- The attention mask. -/
def mw : IVec S256x256 1 := k0_pay12 mw1 mw2 k0_pay9 k0_pay10 k0_pay11

theorem head_inb (b : Fin 2) (h : Fin 4) : ∀ a, (![b.val, 0, h.val, 0] : Fin 4 → ℕ) a + S1x256x1x64.size a ≤ S2x256x4x64.size a := by
  revert b h; decide

/-- Batch `b`, local head `h` of the device's keys. -/
def kv (c : Dev nD) (b : Fin 2) (h : Fin 4) : Vec F S1x256x1x64 .bf16 :=
  (kM).view.readAt (Elt F) (Rect.unit (s := S2x256x4x64) ![b.val, 0, h.val, 0] S1x256x1x64.size (head_inb b h)) (kstg m ρ c)
/-- Batch `b`, local head `h` of the device's values. -/
def vv (c : Dev nD) (b : Fin 2) (h : Fin 4) : Vec F S1x256x1x64 .bf16 :=
  (vM).view.readAt (Elt F) (Rect.unit (s := S2x256x4x64) ![b.val, 0, h.val, 0] S1x256x1x64.size (head_inb b h)) (vstg m ρ c)

/-- Block `n` of device `c`'s context, `n = 4 * batch + local head`, as the kernel computes it. -/
def blkPay (c : Dev nD) : Fin 8 → FVec F S1x256x64 .bf16
  | 0 => k0_pay15 (k0_pay13 (vv m ρ c 0 0)) (k0_pay14 (qv m ρ c) mw1 mw2 k0_pay9 k0_pay10 k0_pay11 (kv m ρ c 0 0))
  | 1 => k0_pay16 (qv m ρ c) mw (kv m ρ c 0 1) (vv m ρ c 0 1)
  | 2 => k0_pay18 mw (k0_pay17 (qv m ρ c)) (kv m ρ c 0 2) (vv m ρ c 0 2)
  | 3 => k0_pay21 (k0_pay19 (qv m ρ c) mw (kv m ρ c 0 3)) (k0_pay20 (qv m ρ c) mw (kv m ρ c 0 3)) (vv m ρ c 0 3)
  | 4 => k0_pay24 (k0_pay22 (vv m ρ c 1 0)) (k0_pay23 (qv m ρ c) mw (kv m ρ c 1 0))
  | 5 => k0_pay25 (qv m ρ c) mw (kv m ρ c 1 1) (vv m ρ c 1 1)
  | 6 => k0_pay27 mw (k0_pay26 (qv m ρ c)) (kv m ρ c 1 2) (vv m ρ c 1 2)
  | 7 => k0_pay30 (k0_pay28 (qv m ρ c) mw (kv m ρ c 1 3)) (k0_pay29 (qv m ρ c) mw (kv m ρ c 1 3)) (vv m ρ c 1 3)

/-! ## The gathered scratch buffer -/

/-- The block number of row `r`, column `k` of a context. -/
def blkOf (r : Fin 512) (k : Fin 256) : Fin 8 := ⟨r.val / 256 * 4 + k.val / 64, by omega⟩
/-- The place of row `r`, column `k` inside its block. -/
def inBlk (r : Fin 512) (k : Fin 256) : S1x256x64.Idx :=
  ix3 (0 : Fin 1) (⟨r.val % 256, Nat.mod_lt _ (by decide)⟩ : Fin 256) (⟨k.val % 64, Nat.mod_lt _ (by decide)⟩ : Fin 64)

/-- The whole scratch buffer with every device's context in its slot. -/
def gath : (cc0_scratch0 : Ref sig .tc).ty.Contents (Elt F) :=
  fun i : S8x512x256.Idx => blkPay m ρ (i 0) (blkOf (i 1) (i 2)) (inBlk (i 1) (i 2))

/-- `f` holds the first `n` blocks of device `c`'s context in slot `c`. -/
def Agree (c : Dev nD) (n : ℕ) (f : (cc0_scratch0 : Ref sig .tc).ty.Contents (Elt F)) : Prop :=
  ∀ i : S8x512x256.Idx, i 0 = c → (blkOf (i 1) (i 2)).val < n → f i = gath m ρ i

theorem agree_zero (c : Dev nD) (f) : Agree m ρ c 0 f := fun _ _ h => absurd h (Nat.not_lt_zero _)

/-- A block of 256 by 64 at slot `c`, block `n`. -/
abbrev blkOff (c : Dev nD) (n : Fin 8) : Fin 3 → ℕ := ![c.val, n.val / 4 * 256, n.val % 4 * 64]

theorem inBlk_range (r : Fin 512) (k : Fin 256) (n : Fin 8) (h : blkOf r k = n) :
    n.val / 4 * 256 ≤ r.val ∧ r.val < n.val / 4 * 256 + 256 ∧ n.val % 4 * 64 ≤ k.val ∧ k.val < n.val % 4 * 64 + 64 := by
  have := congrArg Fin.val h; simp only [blkOf] at this; omega

/-- Storing block `n` into slot `c` after the first `n`. -/
theorem agree_store (c : Dev nD) (n : Fin 8) {off : Fin 3 → ℕ} {inb} (hoff : off = blkOff c n)
    (f : (cc0_scratch0 : Ref sig .tc).ty.Contents (Elt F)) (hf : Agree m ρ c n.val f) :
    Agree m ρ c (n.val + 1)
      ((gM.access (Rect.unit (s := S8x512x256) off S1x256x64.size inb)).write (Elt F) f (blkPay m ρ c n) Finset.univ) := by
  subst hoff
  intro i hi hn
  by_cases h : blkOf (i 1) (i 2) = n
  · obtain ⟨h1, h2, h3, h4⟩ := inBlk_range _ _ _ h
    have he : (gM.access (Rect.unit (s := S8x512x256) (blkOff c n) S1x256x64.size inb)).emb (inBlk (i 1) (i 2)) = i := by
      funext a
      have hc := congrArg Fin.val hi
      fin_cases a
      · apply Fin.ext; show c.val + 1 * 0 = (i 0).val; omega
      · apply Fin.ext; show n.val / 4 * 256 + 1 * ((i 1).val % 256) = (i 1).val; omega
      · apply Fin.ext; show n.val % 4 * 64 + 1 * ((i 2).val % 64) = (i 2).val; omega
    have := View.write_emb_of_mem (Val := Elt F) (v := gM.access (Rect.unit (s := S8x512x256) (blkOff c n) S1x256x64.size inb)) f (blkPay m ρ c n)
      (Finset.mem_univ (inBlk (i 1) (i 2)))
    rw [he] at this
    refine this.trans ?_
    unfold gath
    rw [hi, h]; rfl
  · have hlt : (blkOf (i 1) (i 2)).val < n.val := by
      have : (blkOf (i 1) (i 2)).val ≠ n.val := fun h' => h (Fin.ext h')
      omega
    rw [← hf i hi hlt]
    apply View.write_of_not_mem
    intro hmem
    rw [View.setOn_univ, View.set_slice_whole, Rect.mem_set_unit] at hmem
    have h1 := hmem (1 : Fin 3)
    have h2 := hmem (2 : Fin 3)
    have e1 : n.val / 4 * 256 ≤ (i 1).val ∧ (i 1).val < n.val / 4 * 256 + 256 := h1
    have e2 : n.val % 4 * 64 ≤ (i 2).val ∧ (i 2).val < n.val % 4 * 64 + 64 := h2
    apply h; apply Fin.ext; simp only [blkOf]; omega

/-- The elements of slot `o`. -/
theorem mem_slot (o : Dev nD) (i : S8x512x256.Idx) : i ∈ (slotM o).view.set ↔ i 0 = o := by
  have hs : (slotM o).view.set = (Rect.unit (s := S8x512x256) (k0_off10 o) S1x512x256.size (k0_off10_inb o)).set :=
    (Memref.set_view_squeeze _ _).trans (View.set_slice_whole _ _)
  rw [hs, Rect.mem_set_unit, k0_off10_eq]
  constructor
  · intro h
    have h0 : o.val ≤ (i 0).val ∧ (i 0).val < o.val + 1 := h (0 : Fin 3)
    exact Fin.ext (by omega)
  · rintro rfl a
    fin_cases a
    · exact ⟨le_refl _, Nat.lt_succ_self _⟩
    · exact ⟨Nat.zero_le _, (by have := (i 1).isLt; simpa using this)⟩
    · exact ⟨Nat.zero_le _, (by have := (i 2).isLt; simpa using this)⟩

/-- A rectangle of one row of slots lies in its slot. -/
theorem slot_access (o : Dev nD) {off size : Fin 3 → ℕ} {inb} (hoff : off 0 = o.val) (hsize : size 0 = 1) :
    (gM.access (Rect.unit (s := S8x512x256) off size inb)).set ⊆ (slotM o).view.set := by
  intro i hi
  rw [View.set_slice_whole, Rect.mem_set_unit] at hi
  have h0 := hi (0 : Fin 3)
  exact (mem_slot o i).mpr (Fin.ext (by have := h0.1; have := h0.2; rw [hoff] at *; rw [hsize] at *; omega))

/-- Once eight blocks are stored the slot is as gathered. -/
theorem agree_slot (c : Dev nD) (f) (hf : Agree m ρ c 8 f) : ∀ i ∈ (slotM c).view.set, f i = gath m ρ i :=
  fun i hi => hf i ((mem_slot c i).mp hi) (blkOf _ _).isLt

end Cert.KernelIdeal.Run
-- ==== Proof.KernelIdeal.Protocol.lean ====
/-
The protocol the eight devices follow, under the library of semaphore rounds.

Every device first signals the barrier semaphore of the seven others and waits for seven units on its own: a signal
hands the receiver the right to write into one slot of the signaller's scratch buffer. Then the device sends its own
slot to the seven others, one send and one receive semaphore per distance round the ring, and waits for the seven
slots that come to it.
-/
module

public import proofs.«01_k».proof.Proof.KernelIdeal.Contents

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline's part and the protocol's, whose duties are named by distances -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices round the ring -/

set_option backward.proofsInPublic true in
/-- The device `j + 1` places after `c`. -/
def peer (c : Dev nD) (j : Fin 7) : Dev nD := ⟨(c.val + (j.val + 1)) % 8, Nat.mod_lt _ (by decide)⟩
set_option backward.proofsInPublic true in
/-- The device `j + 1` places before `c`. -/
def src (c : Dev nD) (j : Fin 7) : Dev nD := ⟨((c.val + 7) - j.val) % 8, Nat.mod_lt _ (by decide)⟩
set_option backward.proofsInPublic true in
/-- The distance the other way round. -/
def rev (j : Fin 7) : Fin 7 := ⟨6 - j.val, by omega⟩

theorem rev_rev (j : Fin 7) : rev (rev j) = j := by revert j; decide
theorem peer_rev (c : Dev nD) (j : Fin 7) : peer (peer c j) (rev j) = c := by revert c j; decide
theorem src_peer (c : Dev nD) (j : Fin 7) : src (peer c j) j = c := by revert c j; decide
theorem peer_src (c : Dev nD) (j : Fin 7) : peer (src c j) j = c := by revert c j; decide
theorem src_eq (c : Dev nD) (j : Fin 7) : src c j = peer c (rev j) := by revert c j; decide
theorem peer_ne (c : Dev nD) (j : Fin 7) : peer c j ≠ c := by revert c j; decide
theorem src_ne (c : Dev nD) (j : Fin 7) : src c j ≠ c := by revert c j; decide
theorem peer_inj (c : Dev nD) : Function.Injective (peer c) := by revert c; decide
theorem src_inj (c : Dev nD) : Function.Injective (src c) := by revert c; decide
theorem univ_peer (c : Dev nD) : (Finset.univ : Finset (Dev nD)).erase c = Finset.univ.map ⟨peer c, peer_inj c⟩ := by revert c; decide
theorem univ_src (c : Dev nD) : (Finset.univ : Finset (Dev nD)).erase c = Finset.univ.map ⟨src c, src_inj c⟩ := by revert c; decide

/-! ## Semaphores and cells -/

/-- The runtime's barrier semaphore. -/
abbrev barS : Sem sig := (SemArray.scalar (sig.barrier 0 rfl) : Sems sig S_).sem
set_option backward.proofsInPublic true in
/-- The send semaphore at distance `j`. -/
def sendS (j : Fin 7) : DmaSem sig := ⟨6 + j.val, by show 6 + j.val < 20; omega⟩
set_option backward.proofsInPublic true in
/-- The receive semaphore at distance `j`. -/
def recvS (j : Fin 7) : DmaSem sig := ⟨13 + j.val, by show 13 + j.val < 20; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The kernel's own semaphores: the sends, then the receives. -/
abbrev osem : Fin 7 ⊕ Fin 7 → SemLoc sig
  | .inl j => .dma (sendS j)
  | .inr j => .dma (recvS j)
/-- All fifteen semaphores of the protocol. -/
abbrev csem : Unit ⊕ (Fin 7 ⊕ Fin 7) → SemLoc sig
  | .inl _ => .reg barS
  | .inr i => osem i
abbrev CK : Type := Dev nD × (Unit ⊕ (Fin 7 ⊕ Fin 7))
abbrev kcell (ck : CK) : GSem nD τ sig := ((ck.1 : Thread nD τ), csem ck.2)

theorem csem_inj : Function.Injective csem := by decide

/-- The credit of one slot. -/
@[irreducible] def N : ℕ := (slotM (0 : Dev nD)).view.dmaCredit
theorem N_pos : 0 < N := by unfold N; exact View.dmaCredit_pos _ (by decide)
theorem slot_credit (o : Dev nD) : (slotM o).view.dmaCredit = N := by unfold N; rfl
theorem slot_amount (o : Dev nD) (s : DmaSem sig) : (slotM o).view.amount (.dma s) = N := slot_credit o

/-! ## Slots -/

/-- Holding share `q` of slot `o` of device `d`'s scratch buffer. -/
def slotPts (d o : Dev nD) (q : PosShare TreeShare) (f : Buf (Elt F) ((d : Thread nD τ).loc cc0_scratch0)) : sProp 𝕄 :=
  (slotM o).view.loc (d : Thread nD τ) ↦[(slotM o).view.set]{q} f

instance slotPts_storable (d o : Dev nD) (q) (f) : BI.Storable (upEmb : UEmb _ 𝕄) (slotPts (F := F) d o q f) := by
  unfold slotPts; infer_instance

theorem slotPts_congr (d o : Dev nD) (q) {f g : Buf (Elt F) ((d : Thread nD τ).loc cc0_scratch0)}
    (h : ∀ i ∈ (slotM o).view.set, f i = g i) : slotPts (F := F) d o q f = slotPts d o q g := pointsTo_congr h

/-- What one device's slot holds after slot `o` of contents `fs` was copied into it. -/
theorem copied (o : Dev nD) (fd fs : (cc0_scratch0 : Ref sig .tc).ty.Contents (Elt F)) :
    ∀ i ∈ (slotM o).view.set, (slotM o).view.write (Elt F) fd ((slotM o).view.read (Elt F) fs) Finset.univ i = fs i := by
  intro i hi
  rw [View.write_read_eq_piecewise]
  exact Finset.piecewise_eq_of_mem _ _ _ hi

/-! ## The schedule -/

/-- What the signal of the device at distance `d` hands device `c`: slot `c` of that device's scratch buffer. -/
def barPay (c : Dev nD) (d : Fin 7) : sProp 𝕄 := iprop(∃ f, slotPts (peer c d) c fullShare f)
/-- What the end of a send gives back: the share of the device's own slot that the send read. -/
def sendPay (c : Dev nD) (j : Fin 7) : sProp 𝕄 := slotPts c c (shareTokN fullShare j.val) (gath m ρ)
/-- What a transfer brings device `c`: the slot of the sender. -/
def recvPay (c : Dev nD) (j : Fin 7) : sProp 𝕄 := slotPts c (src c j) fullShare (gath m ρ)

/-- What the transfer on DMA semaphore `s` hands device `c`. -/
def xferPay (c : Dev nD) (s : DmaSem sig) : sProp 𝕄 :=
  if s.val < 6 then iprop(emp)
  else if s.val < 13 then sendPay m ρ c (Fin.ofNat 7 (s.val - 6)) else recvPay m ρ c (Fin.ofNat 7 (s.val - 13))

theorem xferPay_send (c : Dev nD) (j : Fin 7) : xferPay m ρ c (sendS j) = sendPay m ρ c j := by
  unfold xferPay
  rw [if_neg (by show ¬(6 + j.val < 6); omega), if_pos (by show 6 + j.val < 13; omega)]
  congr 1
  exact Fin.ext (by show (6 + j.val - 6) % 7 = j.val; omega)
theorem xferPay_recv (c : Dev nD) (j : Fin 7) : xferPay m ρ c (recvS j) = recvPay m ρ c j := by
  unfold xferPay
  rw [if_neg (by show ¬(13 + j.val < 6); omega), if_neg (by show ¬(13 + j.val < 13); omega)]
  congr 1
  exact Fin.ext (by show (13 + j.val - 13) % 7 = j.val; omega)

instance xferPay_storable (c : Dev nD) (s : DmaSem sig) : BI.Storable (upEmb : UEmb _ 𝕄) (xferPay (F := F) m ρ c s) := by
  unfold xferPay sendPay recvPay; (repeat' split) <;> infer_instance
instance barPay_storable (c : Dev nD) (d : Fin 7) : BI.Storable (upEmb : UEmb _ 𝕄) (barPay (F := F) c d) := by
  unfold barPay; infer_instance

abbrev IsBar (g : GSem nD τ sig) : Prop := g.1.2 = .tc ∧ g.2 = .reg barS
abbrev IsXfer (g : GSem nD τ sig) : Prop := g.1.2 = .tc ∧ ∃ i, g.2 = osem i

/-- One round: a barrier cell has seven duties of one unit, a send or receive cell one duty of a slot's credit. -/
def ringRd : Rounds.Schedule (GSem nD τ sig) (Fin 7) 𝕄 where
  duties g r := if r = 0 ∧ IsBar g then Finset.univ else if r = 0 ∧ IsXfer g then {0} else ∅
  unitless _ := False
  amount g _ _ := match g.2 with
    | .reg _ => 1
    | .dma _ => N
  payload g _ d := match g.2 with
    | .reg _ => barPay g.1.1 d
    | .dma s => xferPay m ρ g.1.1 s
  amount_pos g _ _ _ := by
    cases g.2
    · exact Nat.one_pos
    · exact N_pos

instance ringRd_payload_storable (g : GSem nD τ sig) (r : ℕ) (d : Fin 7) :
    BI.Storable (upEmb : UEmb _ 𝕄) ((ringRd (F := F) m ρ).payload g r d) := by
  obtain ⟨t, s⟩ := g
  cases s
  · exact barPay_storable t.1 d
  · exact xferPay_storable m ρ t.1 _

theorem osem_ne_bar (i) : osem i ≠ .reg barS := by cases i <;> exact fun h => by cases h

theorem duties_bar (c : Dev nD) : (ringRd (F := F) m ρ).duties (barCell c) 0 = Finset.univ := by
  dsimp only [ringRd]; exact if_pos ⟨rfl, rfl, rfl⟩
theorem duties_own (c : Dev nD) (i) : (ringRd (F := F) m ρ).duties ((c : Thread nD τ), osem i) 0 = {0} :=
  (if_neg fun h => osem_ne_bar i h.2.2).trans (if_pos ⟨rfl, rfl, i, rfl⟩)
theorem duties_send (c : Dev nD) (j : Fin 7) : (ringRd (F := F) m ρ).duties (sendCell c j) 0 = {0} := duties_own m ρ c (.inl j)
theorem duties_recv (c : Dev nD) (j : Fin 7) : (ringRd (F := F) m ρ).duties (recvCell c j) 0 = {0} := duties_own m ρ c (.inr j)
theorem duties_later (g : GSem nD τ sig) : ∀ r, 1 ≤ r → (ringRd (F := F) m ρ).duties g r = ∅ :=
  fun r hr => (if_neg fun h => by omega).trans (if_neg fun h => by omega)

theorem amount_bar (c : Dev nD) (d : Fin 7) : (ringRd (F := F) m ρ).amount (barCell c) 0 d = 1 := rfl
theorem amount_dma (c : Dev nD) (s : DmaSem sig) (d : Fin 7) : (ringRd (F := F) m ρ).amount ((c : Thread nD τ), .dma s) 0 d = N := rfl

theorem expect_bar (c : Dev nD) : (ringRd (F := F) m ρ).expect (barCell c) 0 = 7 := by
  unfold Schedule.expect Schedule.amountOf
  rw [duties_bar, Finset.sum_congr rfl fun d _ => amount_bar m ρ c d]; rfl
theorem expect_own (c : Dev nD) (i) : (ringRd (F := F) m ρ).expect ((c : Thread nD τ), osem i) 0 = N := by
  unfold Schedule.expect Schedule.amountOf
  rw [duties_own, Finset.sum_singleton]
  cases i <;> exact amount_dma m ρ c _ _
theorem expect_send (c : Dev nD) (j : Fin 7) : (ringRd (F := F) m ρ).expect (sendCell c j) 0 = N := expect_own m ρ c (.inl j)
theorem expect_recv (c : Dev nD) (j : Fin 7) : (ringRd (F := F) m ρ).expect (recvCell c j) 0 = N := expect_own m ρ c (.inr j)

theorem payload_bar (c : Dev nD) (d : Fin 7) : (ringRd (F := F) m ρ).payload (barCell c) 0 d = barPay c d := rfl
theorem payload_send (c : Dev nD) (j d : Fin 7) : (ringRd (F := F) m ρ).payload (sendCell c j) 0 d = sendPay m ρ c j := xferPay_send m ρ c j
theorem payload_recv (c : Dev nD) (j d : Fin 7) : (ringRd (F := F) m ρ).payload (recvCell c j) 0 d = recvPay m ρ c j := xferPay_recv m ρ c j

theorem rest_bar (c : Dev nD) : bigSep ((ringRd (F := F) m ρ).duties (barCell c) 0 \ ∅) (fun d => (ringRd (F := F) m ρ).payload (barCell c) 0 d)
    = bigSep Finset.univ (fun d => barPay c d) := by
  rw [Finset.sdiff_empty, duties_bar]; rfl
theorem rest_send (c : Dev nD) (j : Fin 7) :
    bigSep ((ringRd (F := F) m ρ).duties (sendCell c j) 0 \ ∅) (fun d => (ringRd (F := F) m ρ).payload (sendCell c j) 0 d) = sendPay m ρ c j := by
  rw [Finset.sdiff_empty, duties_send, bigSep_singleton, payload_send]
theorem rest_recv (c : Dev nD) (j : Fin 7) :
    bigSep ((ringRd (F := F) m ρ).duties (recvCell c j) 0 \ ∅) (fun d => (ringRd (F := F) m ρ).payload (recvCell c j) 0 d) = recvPay m ρ c j := by
  rw [Finset.sdiff_empty, duties_recv, bigSep_singleton, payload_recv]

/-! ## What is left of seven steps -/

/-- The steps from `n` on. -/
def fromN (n : ℕ) : Finset (Fin 7) := Finset.univ.filter (fun j => n ≤ j.val)
/-- The steps before `n`. -/
def belowN (n : ℕ) : Finset (Fin 7) := Finset.univ.filter (fun j => j.val < n)

theorem fromN_zero : fromN 0 = Finset.univ := by decide
theorem fromN_last : fromN 7 = ∅ := by decide
theorem belowN_zero : belowN 0 = ∅ := by decide
theorem belowN_last : belowN 7 = Finset.univ := by decide
theorem fromN_insert (j : Fin 7) : fromN j.val = insert j (fromN (j.val + 1)) := by revert j; decide
theorem not_mem_fromN (j : Fin 7) : j ∉ fromN (j.val + 1) := by revert j; decide
theorem belowN_insert (j : Fin 7) : belowN (j.val + 1) = insert j (belowN j.val) := by revert j; decide
theorem not_mem_belowN (j : Fin 7) : j ∉ belowN j.val := by revert j; decide

theorem peel (j : Fin 7) (Φ : Fin 7 → sProp 𝕄) : bigSep (fromN j.val) Φ = iprop(Φ j ∗ bigSep (fromN (j.val + 1)) Φ) := by
  rw [fromN_insert, bigSep_insert (not_mem_fromN j)]; rfl
theorem push (j : Fin 7) (Φ : Fin 7 → sProp 𝕄) : bigSep (belowN (j.val + 1)) Φ = iprop(Φ j ∗ bigSep (belowN j.val) Φ) := by
  rw [belowN_insert, bigSep_insert (not_mem_belowN j)]; rfl

/-! ## What a device owes; levels -/

/-- The barrier units device `c` still owes before signal `n`. -/
def owedBar (c : Dev nD) (n : ℕ) : CellTallies nD τ sig Unit := ∑ j ∈ fromN n, tallyAt (barCell (peer c j)) () 1
/-- The receive credits device `c` still owes before send `n`. -/
def owedRecv (c : Dev nD) (n : ℕ) : CellTallies nD τ sig Unit := ∑ j ∈ fromN n, tallyAt (recvCell (peer c j) j) () N
def O₀ (c : Dev nD) : CellTallies nD τ sig Unit := owedRecv c 0 + owedBar c 0

theorem owedBar_step (c : Dev nD) (j : Fin 7) : owedBar c j.val = owedBar c (j.val + 1) + tallyAt (barCell (peer c j)) () 1 := by
  unfold owedBar; rw [fromN_insert, Finset.sum_insert (not_mem_fromN j), add_comm]
theorem owedRecv_step (c : Dev nD) (j : Fin 7) : owedRecv c j.val = owedRecv c (j.val + 1) + tallyAt (recvCell (peer c j) j) () N := by
  unfold owedRecv; rw [fromN_insert, Finset.sum_insert (not_mem_fromN j), add_comm]
theorem owedBar_last (c : Dev nD) : owedBar c 7 = 0 := by unfold owedBar; rw [fromN_last]; rfl
theorem owedRecv_last (c : Dev nD) : owedRecv c 7 = 0 := by unfold owedRecv; rw [fromN_last]; rfl

def L (g : GSem nD τ sig) : Finset Unit := if g.1.2 = .tc then {()} else ∅
/-- Barrier cells at 1, receive cells at 2, all others at 0. -/
def lv (g : GSem nD τ sig) (_ : Unit) : ℕ := match g.2 with
  | .reg _ => 1
  | .dma s => if 13 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 7) (u : Unit) : lv (recvCell c j) u = 2 := if_pos (by show 13 ≤ 13 + j.val; omega)

/-- A sum of tallies at cells is positive only at one of them. -/
theorem sum_tally_pos {S : Finset (Fin 7)} {cell : Fin 7 → GSem nD τ sig} {k : ℕ} {g : GSem nD τ sig} {u : Unit}
    (h : 0 < (∑ j ∈ S, tallyAt (cell j) () k : CellTallies nD τ sig Unit) g u) : ∃ j, g = cell j := by
  rw [Finset.sum_apply, Finsupp.finset_sum_apply] at h
  obtain ⟨j, -, hj⟩ := Finset.exists_ne_zero_of_sum_ne_zero h.ne'
  refine ⟨j, ?_⟩
  by_contra hn
  rw [tallyAt_apply, if_neg (fun h' => hn h'.1)] at hj
  exact hj rfl

theorem owedRecv_pos {c : Dev nD} {n : ℕ} {g : GSem nD τ sig} {u : Unit} (h : 0 < owedRecv c n g u) : ∃ j, g = recvCell (peer c j) j :=
  sum_tally_pos h
theorem O₀_pos {c : Dev nD} {g : GSem nD τ sig} {u : Unit} (h : 0 < O₀ c g u) :
    (∃ j, g = recvCell (peer c j) j) ∨ ∃ j, g = barCell (peer c j) := by
  unfold O₀ at h
  rw [Pi.add_apply, Finsupp.add_apply] at h
  rcases Nat.eq_zero_or_pos (owedRecv c 0 g u) with h0 | h0
  · rw [h0, zero_add] at h; exact .inr (sum_tally_pos h)
  · exact .inl (owedRecv_pos h0)

/-- The staging waits come below everything a device owes. -/
theorem mayWait_stage (c : Dev nD) (q : DmaSem sig) (hq : ¬ 13 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact (if_neg hq).le)
      (fun g u hg => by
        rcases O₀_pos hg with ⟨j, rfl⟩ | ⟨j, rfl⟩
        · rw [lv_recv]; decide
        · exact Nat.one_pos)
  · rw [MayWait_zero]; iintro -; iempintro

/-- At its barrier wait a device owes receive credits only, which come above. -/
theorem mayWait_bar (c : Dev nD) : (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact le_refl _)
    (fun g u hg => by obtain ⟨j, rfl⟩ := owedRecv_pos hg; rw [lv_recv]; decide)

end Cert.KernelIdeal.Run
-- ==== Proof.KernelIdeal.Steps.lean ====
/-
The steps of the protocol, one lemma for each kind of operation: a signal, the barrier wait, a store of a block, a
send, a wait for a receive, a wait for a send. Each is stated once for the step's number.
-/
module

public import proofs.«01_k».proof.Proof.KernelIdeal.Protocol

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : CK → ℕ)

abbrev 𝒱₀ : Variants := Variants.none

/-- The kernel's body or a rest of it on device `c`, ending in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, and that every cell has reached its round. -/
def recs : sProp 𝕄 :=
  iprop(bigSep Finset.univ (fun ck => cellInv ER (ringRd m ρ) (K ck) (kcell ck)) ∗ bigSep Finset.univ (fun ck : CK => reached ER (kcell ck) 0))

instance recs_persistent : BI.Persistent (recs m ρ K) := by unfold recs; infer_instance

theorem one_inv (ck : CK) : (bigSep Finset.univ fun ck : CK => (cellInv ER (ringRd m ρ) (K ck) (kcell ck) : sProp 𝕄))
    ⊢ cellInv ER (ringRd m ρ) (K ck) (kcell ck) := bigSep_elim (Finset.mem_univ ck)
theorem one_reached (ck : CK) : (bigSep Finset.univ fun ck : CK => (reached ER (kcell ck) 0 : sProp 𝕄)) ⊢ reached ER (kcell ck) 0 :=
  bigSep_elim (Finset.mem_univ ck)
theorem recs_inv (ck : CK) : recs m ρ K ⊢ cellInv ER (ringRd m ρ) (K ck) (kcell ck) := by
  unfold recs
  iintro ⟨H, -⟩
  iapply (one_inv m ρ K ck); iexact H
theorem recs_reached (ck : CK) : recs m ρ K ⊢ reached ER (kcell ck) 0 := by
  unfold recs
  iintro ⟨-, H⟩
  iapply (one_reached ck); iexact H

/-- What device `c` holds before signal `n`: what it owes, and for each signal to come its token and the slot it hands over. -/
def SigSt (c : Dev nD) (n : ℕ) : sProp 𝕄 :=
  iprop((∃ W, owes (c : Thread nD τ) (owedRecv c 0 + owedBar c n) W)
    ∗ bigSep (fromN n) (fun j => iprop(dutyTok ER (barCell (peer c j)) 0 (rev j) ∗ ∃ f, slotPts (F := F) c (peer c j) fullShare f)))

/-- A signal to the device at distance `j`. -/
theorem sig_step (c : Dev nD) (j : Fin 7) (d : Dev nD) (hd : d = peer c j) {α : Type} {Q : α → sProp 𝕄}
    {k : PUnit → Prog (TpuEff nD τ sig (Elt F) Λ₀ .tc) α} :
    iprop(recs m ρ K ∗ SigSt c j.val)
      ⊢ iprop((SigSt c (j.val + 1) -∗ WP c (k ⟨⟩) Q) -∗ WP c (.op (.semSignal (d : Thread nD τ) barS ((1 : ℕ) : ℤ)) k) Q) := by
  subst hd
  unfold SigSt
  rw [peel, owedBar_step]
  iintro ⟨#Hr, ⟨%W, HO⟩, ⟨Ht, Hs⟩, Hrest⟩ Hk
  iapply (Rounds.wp_signal 𝒱₀ ER (ringRd m ρ) (c : Thread nD τ) none (dst := (peer c j : Thread nD τ)) (κ := K (peer c j, .inl ()))
      (d := rev j) (by rw [duties_bar]; exact Finset.mem_univ _) (amount_bar m ρ (peer c j) (rev j)) () (owedRecv c 0 + owedBar c (j.val + 1)) (by rw [add_assoc]))
    $$ [HO Ht Hs]
  · isplitr; · iapply (recs_inv m ρ K (peer c j, .inl ())); iexact Hr
    isplitl [HO]; · iexact HO
    isplitl [Ht]; · iexact Ht
    isplitl [Hs]
    · rw [payload_bar]; unfold barPay; rw [peer_rev]; iexact Hs
    iapply (recs_reached m ρ K (peer c j, .inl ())); iexact Hr
  iintro HO
  iapply Hk
  isplitl [HO]; · iexists W; iexact HO
  iexact Hrest

/-- The barrier wait: slot `c` of every other device comes with it, and the barrier's counter at zero. -/
theorem bar_wait (c : Dev nD) {α : Type} {Q : α → sProp 𝕄} {k : PUnit → Prog (TpuEff nD τ sig (Elt F) Λ₀ .tc) α} :
    iprop(recs m ρ K ∗ levAts L lv ∗ SigSt c 7 ∗ cred (tallyAt (barCell c) () 7) ∗ atPos ER (barCell c) 0 ∅ 0)
      ⊢ iprop(((∃ W, owes (c : Thread nD τ) (owedRecv c 0) W) ∗ semVal (barCell c) 0
            ∗ bigSep Finset.univ (fun j => iprop(∃ f, slotPts (F := F) (peer c j) c fullShare f)) -∗ WP c (k ⟨⟩) Q)
          -∗ WP c (.op (.semWait barS ((7 : ℕ) : ℤ)) k) Q) := by
  unfold SigSt
  rw [owedBar_last, add_zero]
  iintro ⟨#Hr, #Hlev, ⟨⟨%W, HO⟩, -⟩, Hc, Hat⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owedRecv c 0) (W := W) (R := 0) (m := 0) (T := ∅)
      (by rw [expect_bar])) $$ [Hc HO Hat]
  · isplitr; · iapply (recs_inv m ρ K (c, .inl ())); iexact Hr
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (recs_inv m ρ K (c, .inl ())); iexact Hr
    iexact Hat
  iapply Hk
  isplitl [HO]; · iexists _; iexact HO
  isplitl [Hz]; · iexact Hz
  iexact Hp

/-- Device `c`'s own slot with the first `n` blocks of its context stored. -/
def StoreSt (c : Dev nD) (n : ℕ) : sProp 𝕄 := iprop(∃ f, ⌜Agree m ρ c n f⌝ ∗ slotPts (F := F) c c fullShare f)

/-- The rectangle of one block of 256 by 64 at a given offset. -/
abbrev blkRect (off : Fin 3 → ℕ) (inb : ∀ a, off a + S1x256x64.size a ≤ S8x512x256.size a) : Rect S8x512x256 :=
  Rect.unit (s := S8x512x256) off S1x256x64.size inb

/-- The read of a block about to be overwritten. -/
theorem blk_load (c : Dev nD) (n : ℕ) {off : Fin 3 → ℕ} {inb} (hoff : off 0 = c.val)
    {α : Type} {Q : α → sProp 𝕄} {hl : gM.view.LoadsAt (blkRect off inb).toLoadRect}
    {k : ((blkRect off inb).toLoadRect.shape.Idx → Elt F .bf16) → Prog (TpuEff nD τ sig (Elt F) Λ₀ .tc) α} :
    StoreSt m ρ c n
      ⊢ iprop((∀ w, StoreSt m ρ c n -∗ WP c (k w) Q) -∗ WP c (.op (.load gM (blkRect off inb).toLoadRect hl) k) Q) := by
  unfold StoreSt slotPts
  iintro ⟨%f, %hf, H⟩ Hk
  iapply (wp_load_rect 𝒱₀ (c : Thread nD τ) none Set.univ (m := gM) (r := blkRect off inb) (slot_access c hoff rfl)) $$ H
  iintro H
  iapply Hk
  iexists f; isplitr; · (ipureintro; exact hf)
  iexact H

/-- The store of block `n`. -/
theorem blk_store (c : Dev nD) (n : Fin 8) (a b : ℕ) (ha : n.val = a) (hb : n.val + 1 = b) {off : Fin 3 → ℕ} {inb} (hoff : off = blkOff c n)
    {w : FVec F S1x256x64 .bf16} (hw : w = blkPay m ρ c n)
    {α : Type} {Q : α → sProp 𝕄} {hx hm} {k : PUnit → Prog (TpuEff nD τ sig (Elt F) Λ₀ .tc) α} :
    StoreSt m ρ c a
      ⊢ iprop((StoreSt m ρ c b -∗ WP c (k ⟨⟩) Q)
          -∗ WP c (.op (.store gM (blkRect off inb) w Finset.univ hx hm) k) Q) := by
  subst hw ha hb
  unfold StoreSt slotPts
  iintro ⟨%f, %hf, H⟩ Hk
  iapply (wp_store 𝒱₀ (c : Thread nD τ) none Set.univ (m := gM) (r := blkRect off inb) (Mk := Finset.univ)
    (slot_access c (by rw [hoff]; rfl) rfl)) $$ H
  iintro H
  iapply Hk
  iexists ((gM.access (blkRect off inb)).write (Elt F) f (blkPay m ρ c n) Finset.univ); isplitr
  · ipureintro; exact agree_store m ρ c n hoff f hf
  iexact H

/-- What device `c` holds before send `n`: what it owes; for each send to come its two tokens, the peer's slot and a
    share of its own; for each send done the credit to wait with. -/
def SendSt (c : Dev nD) (n : ℕ) : sProp 𝕄 :=
  iprop((∃ W, owes (c : Thread nD τ) (owedRecv c n) W)
    ∗ bigSep (fromN n) (fun j => iprop((dutyTok ER (sendCell c j) 0 0 ∗ dutyTok ER (recvCell (peer c j) j) 0 0)
        ∗ (∃ f, slotPts (F := F) (peer c j) c fullShare f) ∗ slotPts c c (shareTokN fullShare j.val) (gath m ρ)))
    ∗ bigSep (belowN n) (fun j => cred (tallyAt (sendCell c j) () N)))

set_option maxHeartbeats 1000000 in
/-- The send to the device at distance `j`. -/
theorem send_step (c : Dev nD) (j : Fin 7) (d : Dev nD) (hd : d = peer c j) (sS sR : DmaSem sig) (hS : sS = sendS j) (hR : sR = recvS j)
    {hsc : (slotM c : Memref sig (Dev.tc d : Thread nD τ).2.kind .vmem S512x256 .bf16).view.ref.isScScratch = false}
    {hsrc : (slotM c).view.WordExact} {hdst : (slotM c).view.WordExact}
    {hsem : DmaTarget.Typed .vmem (.dma sR) (.remote (Dev.tc d : Thread nD τ) (slotM c) (.dma sS) hsc)}
    {α : Type} {Q : α → sProp 𝕄} {k : PUnit → Prog (TpuEff nD τ sig (Elt F) Λ₀ .tc) α} :
    iprop(recs m ρ K ∗ SendSt m ρ c j.val)
      ⊢ iprop((SendSt m ρ c (j.val + 1) -∗ WP c (k ⟨⟩) Q)
          -∗ WP c (.op (.enqueueDma (slotM c) (.remote (Dev.tc d : Thread nD τ) (slotM c) (.dma sS) hsc) (.dma sR) hsrc hdst hsem) k) Q) := by
  subst hd hS hR
  unfold SendSt
  rw [peel, push, owedRecv_step]
  iintro ⟨#Hr, ⟨%W, HO⟩, ⟨⟨⟨HtS, HtV⟩, ⟨%fn, Hn⟩, Hs⟩, Hrest⟩, Hdone⟩ Hk
  unfold slotPts
  iapply (Rounds.wp_send_pointsTo 𝒱₀ ER (ringRd m ρ) (c : Thread nD τ) none (κ₁ := K (c, .inr (.inl j))) (κ₂ := K (peer c j, .inr (.inr j)))
    (r₁ := 0) (r₂ := 0) (d₁ := 0) (d₂ := 0) (fd := fn)
    (by rw [duties_send]; exact Finset.mem_singleton_self _) (by rw [duties_recv]; exact Finset.mem_singleton_self _)
    () () N (slot_amount c _) (amount_dma m ρ c _ 0) (amount_dma m ρ (peer c j) _ 0) (owedRecv c (j.val + 1)) rfl (W := W)
    (by rw [payload_send]; exact BI.Entails.refl _)
    (by rw [payload_recv]; unfold recvPay; rw [src_peer]; exact Entails.of_eq (pointsTo_congr (copied c fn (gath m ρ)))))
    $$ [HO HtS HtV Hn Hs]
  · isplitr; · iapply (recs_inv m ρ K (c, .inr (.inl j))); iexact Hr
    isplitr; · iapply (recs_inv m ρ K (peer c j, .inr (.inr j))); iexact Hr
    isplitl [Hs]; · iexact Hs
    isplitl [Hn]; · iexact Hn
    isplitl [HO]; · iexact HO
    isplitl [HtS]; · iexact HtS
    isplitr; · iapply (recs_reached m ρ K (c, .inr (.inl j))); iexact Hr
    isplitl [HtV]; · iexact HtV
    iapply (recs_reached m ρ K (peer c j, .inr (.inr j))); iexact Hr
  iintro ⟨Hc, HO⟩
  iapply Hk
  isplitl [HO]; · iexists W; iexact HO
  isplitl [Hrest]; · iexact Hrest
  isplitl [Hc]; · iexact Hc
  iexact Hdone

/-- A wait on one of the device's own cells for its whole round, nothing owed: what the round hands over, and the cell's
    counter at zero. -/
theorem own_wait (c : Dev nD) (i : Fin 7 ⊕ Fin 7) (s : DmaSem sig) (hs : SemLoc.dma s = osem i)
    {hsrc hdst : (slotM c).view.WordExact} {α : Type} {Q : α → sProp 𝕄} {k : PUnit → Prog (TpuEff nD τ sig (Elt F) Λ₀ .tc) α} :
    iprop(recs m ρ K ∗ (∃ W, owes (c : Thread nD τ) 0 W) ∗ cred (tallyAt ((c : Thread nD τ), osem i) () N) ∗ atPos ER ((c : Thread nD τ), osem i) 0 ∅ 0)
      ⊢ iprop(((∃ W, owes (c : Thread nD τ) 0 W) ∗ semVal ((c : Thread nD τ), osem i) 0
            ∗ bigSep ((ringRd m ρ).duties ((c : Thread nD τ), osem i) 0 \ ∅) (fun d => (ringRd m ρ).payload ((c : Thread nD τ), osem i) 0 d) -∗ WP c (k ⟨⟩) Q)
          -∗ WP c (.op (.waitDma2 s (slotM c) (slotM c) hsrc hdst) k) Q) := by
  iintro ⟨#Hr, ⟨%W, HO⟩, Hc, Hat⟩ Hk
  rw [← hs]
  iapply (Rounds.wp_wait_rest_token 𝒱₀ ER (ringRd m ρ) (c : Thread nD τ) none (κ := K (c, .inr i))
      (wpE_waitDma2_eq 𝒱₀ (c : Thread nD τ) none Set.univ) (Set.mem_univ _) () (O := 0) (W := W) (R := 0) (m := 0) (T := ∅)
      (by rw [Nat.zero_add, hs, expect_own, slot_credit])) $$ [Hc HO Hat]
  · isplitr; · rw [hs]; iapply (recs_inv m ρ K (c, .inr i)); iexact Hr
    isplitl [Hc]; · rw [slot_credit]; iexact Hc
    isplitl [HO]; · iexact HO
    isplitr; · rw [MayWait_zero]; iempintro
    iexact Hat
  iintro ⟨HO, Hat, -, Hpay⟩
  imod (Rounds.cell_close ER (ringRd m ρ) (Set.mem_univ (K (c, .inr i))) (fun h => h) (R := 0 + 1) (duties_later m ρ ((c : Thread nD τ), .dma s))) $$ [Hat] with Hz
  · isplitr; · rw [hs]; iapply (recs_inv m ρ K (c, .inr i)); iexact Hr
    iexact Hat
  iapply Hk
  isplitl [HO]; · iexists _; iexact HO
  isplitl [Hz]; · iexact Hz
  iexact Hpay

/-- What device `c` holds before it waits for transfer `n`. -/
def RecvSt (c : Dev nD) (n : ℕ) : sProp 𝕄 :=
  iprop((∃ W, owes (c : Thread nD τ) 0 W)
    ∗ bigSep (fromN n) (fun j => iprop(cred (tallyAt (recvCell c j) () N) ∗ atPos ER (recvCell c j) 0 ∅ 0))
    ∗ bigSep (belowN n) (fun j => iprop(semVal (recvCell c j) 0 ∗ slotPts c (src c j) fullShare (gath m ρ))))

/-- The wait for the transfer from distance `j`. -/
theorem recv_wait (c : Dev nD) (j : Fin 7) (s : DmaSem sig) (hs : s = recvS j) {hsrc hdst : (slotM c).view.WordExact}
    {α : Type} {Q : α → sProp 𝕄} {k : PUnit → Prog (TpuEff nD τ sig (Elt F) Λ₀ .tc) α} :
    iprop(recs m ρ K ∗ RecvSt m ρ c j.val)
      ⊢ iprop((RecvSt m ρ c (j.val + 1) -∗ WP c (k ⟨⟩) Q) -∗ WP c (.op (.waitDma2 s (slotM c) (slotM c) hsrc hdst) k) Q) := by
  unfold RecvSt
  rw [peel, push]
  iintro ⟨#Hr, HO, ⟨⟨Hc, Hat⟩, Hrest⟩, Hdone⟩ Hk
  iapply (own_wait m ρ K c (.inr j) s (by rw [hs])) $$ [HO Hc Hat]
  · isplitr; · iexact Hr
    isplitl [HO]; · iexact HO
    isplitl [Hc] <;> iassumption
  iintro ⟨HO, Hz, Hpay⟩
  ihave Hp := (Entails.of_eq (rest_recv m ρ c j)) $$ Hpay
  iapply Hk
  isplitl [HO]; · iexact HO
  isplitl [Hrest]; · iexact Hrest
  isplitr [Hdone]
  · isplitl [Hz]; · iexact Hz
    unfold recvPay; iexact Hp
  iexact Hdone

/-- What device `c` holds before it waits for the end of its send `n`. -/
def DrainSt (c : Dev nD) (n : ℕ) : sProp 𝕄 :=
  iprop((∃ W, owes (c : Thread nD τ) 0 W)
    ∗ bigSep (fromN n) (fun j => iprop(cred (tallyAt (sendCell c j) () N) ∗ atPos ER (sendCell c j) 0 ∅ 0))
    ∗ bigSep (belowN n) (fun j => iprop(semVal (sendCell c j) 0 ∗ slotPts c c (shareTokN fullShare j.val) (gath m ρ))))

/-- The wait for the end of the send at distance `j`. -/
theorem drain_wait (c : Dev nD) (j : Fin 7) (s : DmaSem sig) (hs : s = sendS j) {hsrc hdst : (slotM c).view.WordExact}
    {α : Type} {Q : α → sProp 𝕄} {k : PUnit → Prog (TpuEff nD τ sig (Elt F) Λ₀ .tc) α} :
    iprop(recs m ρ K ∗ DrainSt m ρ c j.val)
      ⊢ iprop((DrainSt m ρ c (j.val + 1) -∗ WP c (k ⟨⟩) Q) -∗ WP c (.op (.waitDma2 s (slotM c) (slotM c) hsrc hdst) k) Q) := by
  unfold DrainSt
  rw [peel, push]
  iintro ⟨#Hr, HO, ⟨⟨Hc, Hat⟩, Hrest⟩, Hdone⟩ Hk
  iapply (own_wait m ρ K c (.inl j) s (by rw [hs])) $$ [HO Hc Hat]
  · isplitr; · iexact Hr
    isplitl [HO]; · iexact HO
    isplitl [Hc] <;> iassumption
  iintro ⟨HO, Hz, Hpay⟩
  ihave Hp := (Entails.of_eq (rest_send m ρ c j)) $$ Hpay
  iapply Hk
  isplitl [HO]; · iexact HO
  isplitl [Hrest]; · iexact Hrest
  isplitr [Hdone]
  · isplitl [Hz]; · iexact Hz
    unfold sendPay; iexact Hp
  iexact Hdone

/-! ## Loads of whole slots -/

theorem row_inb (o : Dev nD) : ∀ a, (![o.val, 0, 0] : Fin 3 → ℕ) a + S1x512x256.size a ≤ S8x512x256.size a := by revert o; decide

/-- The context of device `o`, as a load of its slot reads it. -/
def ctxRow (o : Dev nD) : Vec F S1x512x256 .bf16 :=
  (gM.access (Rect.unit (s := S8x512x256) ![o.val, 0, 0] S1x512x256.size (row_inb o))).read (Elt F) (gath m ρ)

/-- The rectangle of one slot at a given offset. -/
abbrev rowRect (off : Fin 3 → ℕ) (inb : ∀ a, off a + S1x512x256.size a ≤ S8x512x256.size a) : Rect S8x512x256 :=
  Rect.unit (s := S8x512x256) off S1x512x256.size inb

/-- A load of a slot held at any share. -/
theorem slot_load (c o : Dev nD) (q : PosShare TreeShare) {off : Fin 3 → ℕ} {inb} (hoff : off = ![o.val, 0, 0])
    {α : Type} {Q : α → sProp 𝕄} {hl : gM.view.LoadsAt (rowRect off inb).toLoadRect}
    {k : ((rowRect off inb).toLoadRect.shape.Idx → Elt F .bf16) → Prog (TpuEff nD τ sig (Elt F) Λ₀ .tc) α} :
    slotPts c o q (gath m ρ)
      ⊢ iprop((slotPts c o q (gath m ρ) -∗ WP c (k (ctxRow m ρ o)) Q) -∗ WP c (.op (.load gM (rowRect off inb).toLoadRect hl) k) Q) := by
  subst hoff
  unfold slotPts
  exact wp_load_rect 𝒱₀ (c : Thread nD τ) none Set.univ (m := gM) (r := rowRect _ inb) (slot_access o rfl rfl)

theorem pick {S : Finset (Fin 7)} {j : Fin 7} (hj : j ∈ S) (Φ : Fin 7 → sProp 𝕄) : bigSep S Φ = iprop(Φ j ∗ bigSep (S.erase j) Φ) :=
  bigSep_erase hj

/-- A load of a slot that came from distance `j`. -/
theorem recv_load (c : Dev nD) (j : Fin 7) (n : ℕ) (hn : j ∈ belowN n) {off : Fin 3 → ℕ} {inb} (hoff : off = ![(src c j).val, 0, 0])
    {α : Type} {Q : α → sProp 𝕄} {hl : gM.view.LoadsAt (rowRect off inb).toLoadRect}
    {k : ((rowRect off inb).toLoadRect.shape.Idx → Elt F .bf16) → Prog (TpuEff nD τ sig (Elt F) Λ₀ .tc) α} :
    RecvSt m ρ c n
      ⊢ iprop((RecvSt m ρ c n -∗ WP c (k (ctxRow m ρ (src c j))) Q) -∗ WP c (.op (.load gM (rowRect off inb).toLoadRect hl) k) Q) := by
  unfold RecvSt
  rw [pick hn]
  iintro ⟨HO, Hrest, ⟨Hz, Hs⟩, Hdone⟩ Hk
  iapply (slot_load m ρ c (src c j) fullShare hoff) $$ Hs
  iintro Hs
  iapply Hk
  isplitl [HO]; · iexact HO
  isplitl [Hrest]; · iexact Hrest
  isplitr [Hdone]
  · isplitl [Hz]; · iexact Hz
    iexact Hs
  iexact Hdone

end Cert.KernelIdeal.Run
-- ==== Proof.KernelIdeal.Phases.lean ====
/-
What the body holds between its phases, how one phase's end makes the next one's start, and the loads of the staged
arguments.
-/
module

public import proofs.«01_k».proof.Proof.KernelIdeal.Steps

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : CK → ℕ)

/-! ## The scratch buffer as slots -/

/-- A device's whole scratch buffer is its eight slots. -/
theorem scratch_slots (c : Dev nD) (q : PosShare TreeShare) (f : Buf (Elt F) ((c : Thread nD τ).loc cc0_scratch0)) :
    ((((c : Thread nD τ).loc cc0_scratch0) ↦{q} f : sProp 𝕄)) = bigSep Finset.univ (fun o => slotPts c o q f) := by
  have h := pointsTo_biUnion (Val := Elt F) (Ix := Unit) (Name := ℕ) (U := UU) (Lvl := ℕ) (ℓ := (c : Thread nD τ).loc cc0_scratch0) (q := q) (f := f)
    (Finset.univ : Finset (Dev nD)) (fun o => (slotM o).view.set)
    (fun o _ o' _ hne => Finset.disjoint_left.mpr fun i hi hi' => hne (((mem_slot o i).mp hi).symm.trans ((mem_slot o' i).mp hi')))
  have hu : (Finset.univ : Finset (Dev nD)).biUnion (fun o => (slotM o).view.set) = (Finset.univ : Finset (Idx ((c : Thread nD τ).loc cc0_scratch0))) := by
    refine Finset.eq_univ_of_forall fun i => Finset.mem_biUnion.mpr ⟨(i : S8x512x256.Idx) 0, Finset.mem_univ _, (mem_slot _ i).mpr rfl⟩
  rw [hu] at h
  exact h

/-- Its own slot, and one slot for each device after it. -/
theorem scratch_peers (c : Dev nD) (q : PosShare TreeShare) (f : Buf (Elt F) ((c : Thread nD τ).loc cc0_scratch0)) :
    ((((c : Thread nD τ).loc cc0_scratch0) ↦{q} f : sProp 𝕄)) = iprop(slotPts c c q f ∗ bigSep Finset.univ (fun j => slotPts c (peer c j) q f)) := by
  rw [scratch_slots, bigSep_erase (Finset.mem_univ c), univ_peer, bigSep_map]; rfl
/-- Its own slot, and one slot for each device before it. -/
theorem scratch_srcs (c : Dev nD) (q : PosShare TreeShare) (f : Buf (Elt F) ((c : Thread nD τ).loc cc0_scratch0)) :
    ((((c : Thread nD τ).loc cc0_scratch0) ↦{q} f : sProp 𝕄)) = iprop(slotPts c c q f ∗ bigSep Finset.univ (fun j => slotPts c (src c j) q f)) := by
  rw [scratch_slots, bigSep_erase (Finset.mem_univ c), univ_src, bigSep_map]; rfl

/-- The own slot as one share for each send and a share kept. -/
theorem own_shares (c : Dev nD) (f : Buf (Elt F) ((c : Thread nD τ).loc cc0_scratch0)) :
    slotPts (F := F) c c fullShare f
      ⊣⊢ iprop(slotPts c c (shareDrop fullShare 7) f ∗ bigSep Finset.univ (fun j : Fin 7 => slotPts c c (shareTokN fullShare j.val) f)) := by
  unfold slotPts; exact pointsTo_toks fullShare 7

/-! ## What the body starts from, and what it ends with -/

/-- What the launch gives device `c` for the protocol: the shared records; its positions on its own fifteen cells; and
    the tokens of the duties it pays. -/
def ghost (c : Dev nD) : sProp 𝕄 :=
  iprop(recs m ρ K
    ∗ (atPos ER (barCell c) 0 ∅ 0 ∗ bigSep Finset.univ (fun j => atPos ER (sendCell c j) 0 ∅ 0) ∗ bigSep Finset.univ (fun j => atPos ER (recvCell c j) 0 ∅ 0))
    ∗ bigSep Finset.univ (fun j => dutyTok ER (barCell (peer c j)) 0 (rev j))
    ∗ bigSep Finset.univ (fun j => dutyTok ER (sendCell c j) 0 0)
    ∗ bigSep Finset.univ (fun j => dutyTok ER (recvCell (peer c j) j) 0 0))

/-- That at some names, the credits device `c` waits with, and the levels. -/
def start (c : Dev nD) : sProp 𝕄 :=
  iprop((∃ K, ghost m ρ K c) ∗ cred (tallyAt (barCell c) () 7) ∗ bigSep Finset.univ (fun j => cred (tallyAt (recvCell c j) () N)) ∗ levAts L lv)

def Φ₀ (c : Dev nD) : sProp 𝕄 := iprop(start m ρ c ∗ ∃ f, ((c : Thread nD τ).loc cc0_scratch0) ↦{fullShare} f)
/-- After the kernel: the gathered scratch buffer, and every counter of the device's semaphores at zero. -/
def Φ₁ (c : Dev nD) : sProp 𝕄 :=
  iprop((((c : Thread nD τ).loc cc0_scratch0) ↦{fullShare} gath m ρ) ∗ semVal (barCell c) 0
    ∗ bigSep Finset.univ (fun i => semVal ((c : Thread nD τ), osem i) 0))

theorem some_slot (c o : Dev nD) (f) : (slotPts c o fullShare f : sProp 𝕄) ⊢ iprop(∃ f, slotPts (F := F) c o fullShare f) := by
  iintro H; iexists f; iexact H
theorem some_slots (c : Dev nD) (f) : (bigSep Finset.univ (fun j => slotPts c (peer c j) fullShare f) : sProp 𝕄)
    ⊢ bigSep Finset.univ (fun j => iprop(∃ f, slotPts c (peer c j) fullShare f)) :=
  bigSep_mono fun j _ => some_slot c (peer c j) f

/-- The start as the state before the first signal, the own slot, and what the later phases need. -/
theorem start_open (c : Dev nD) (f) :
    iprop(bigSep Finset.univ (fun j => dutyTok ER (barCell (peer c j)) 0 (rev j)) ∗ (∃ W, owes (c : Thread nD τ) (O₀ c) W)
        ∗ ((c : Thread nD τ).loc cc0_scratch0) ↦{fullShare} f)
      ⊢ iprop(SigSt (F := F) c 0 ∗ StoreSt m ρ c 0) := by
  rw [scratch_peers]
  unfold SigSt StoreSt O₀
  rw [fromN_zero, bigSep_sep']
  iintro ⟨Ht, HO, Hown, Hs⟩
  isplitr [Hown]
  · isplitl [HO]; · iexact HO
    isplitl [Ht]; · iexact Ht
    iapply (some_slots c f); iexact Hs
  · iexists f; isplitr; · (ipureintro; exact agree_zero m ρ c f)
    iexact Hown

/-- After the barrier wait and the stores: the state before the first send, and the share of the own slot that is kept. -/
theorem send_open (c : Dev nD) :
    iprop((∃ W, owes (c : Thread nD τ) (owedRecv c 0) W) ∗ StoreSt m ρ c 8
        ∗ bigSep Finset.univ (fun j => iprop(∃ f, slotPts (F := F) (peer c j) c fullShare f))
        ∗ bigSep Finset.univ (fun j => dutyTok ER (sendCell c j) 0 0) ∗ bigSep Finset.univ (fun j => dutyTok ER (recvCell (peer c j) j) 0 0))
      ⊢ iprop(SendSt m ρ c 0 ∗ slotPts c c (shareDrop fullShare 7) (gath m ρ)) := by
  unfold SendSt StoreSt
  rw [fromN_zero, belowN_zero, bigSep_empty, bigSep_sep', bigSep_sep', bigSep_sep']
  iintro ⟨HO, ⟨%f, %hf, Hown⟩, Hp, HtS, HtV⟩
  ihave Hown := (Entails.of_eq (slotPts_congr c c fullShare (agree_slot m ρ c f hf))) $$ Hown
  ihave Hown := (own_shares c (gath m ρ)).1 $$ Hown
  icases Hown with ⟨Hkeep, Hsh⟩
  isplitr [Hkeep]
  · isplitl [HO]; · iexact HO
    isplitl
    · isplitl [HtS HtV]; · isplitl [HtS] <;> iassumption
      isplitl [Hp] <;> iassumption
    · iempintro
  iexact Hkeep

/-- After the last send: the states before the first waits. -/
theorem wait_open (c : Dev nD) :
    iprop(SendSt m ρ c 7 ∗ bigSep Finset.univ (fun j => cred (tallyAt (recvCell c j) () N)) ∗ bigSep Finset.univ (fun j => atPos ER (recvCell c j) 0 ∅ 0))
      ⊢ iprop(RecvSt m ρ c 0 ∗ bigSep Finset.univ (fun j => cred (tallyAt (sendCell c j) () N))) := by
  unfold SendSt RecvSt
  rw [fromN_zero, belowN_zero, fromN_last, belowN_last, bigSep_empty, bigSep_empty, bigSep_sep', owedRecv_last]
  iintro ⟨⟨HO, -, Hc⟩, Hr, Hat⟩
  isplitr [Hc]
  · isplitl [HO]; · iexact HO
    isplitl
    · isplitl [Hr] <;> iassumption
    · iempintro
  iexact Hc

/-- After the last receive. -/
theorem drain_open (c : Dev nD) :
    iprop(RecvSt m ρ c 7 ∗ bigSep Finset.univ (fun j => cred (tallyAt (sendCell c j) () N)) ∗ bigSep Finset.univ (fun j => atPos ER (sendCell c j) 0 ∅ 0))
      ⊢ iprop(DrainSt m ρ c 0 ∗ bigSep Finset.univ (fun j => iprop(semVal (recvCell c j) 0 ∗ slotPts c (src c j) fullShare (gath m ρ)))) := by
  unfold DrainSt RecvSt
  rw [fromN_zero, belowN_zero, fromN_last, belowN_last, bigSep_empty, bigSep_empty]
  rw [bigSep_sep' Finset.univ (fun j => cred (tallyAt (sendCell c j) () N))]
  iintro ⟨⟨HO, -, Hd⟩, Hc, Hat⟩
  isplitr [Hd]
  · isplitl [HO]; · iexact HO
    isplitl
    · isplitl [Hc] <;> iassumption
    · iempintro
  iexact Hd

theorem own_split (Φ : Fin 7 ⊕ Fin 7 → sProp 𝕄) :
    bigSep Finset.univ Φ = iprop(bigSep Finset.univ (fun j => Φ (.inl j)) ∗ bigSep Finset.univ (fun j => Φ (.inr j))) := bigSep_univ_sum Φ

/-- After the last wait: the kernel's end. -/
theorem finish (c : Dev nD) :
    iprop(DrainSt m ρ c 7 ∗ bigSep Finset.univ (fun j => iprop(semVal (recvCell c j) 0 ∗ slotPts c (src c j) fullShare (gath m ρ)))
        ∗ slotPts c c (shareDrop fullShare 7) (gath m ρ) ∗ semVal (barCell c) 0)
      ⊢ iprop(Φ₁ m ρ c ∗ ∃ W, owes (c : Thread nD τ) 0 W) := by
  unfold DrainSt Φ₁
  rw [fromN_last, belowN_last, bigSep_empty, bigSep_sep', bigSep_sep', scratch_srcs, own_split]
  iintro ⟨⟨HO, -, HzS, Hsh⟩, ⟨HzV, Hs⟩, Hkeep, Hz⟩
  isplitr [HO]
  · isplitl [Hkeep Hsh Hs]
    · isplitl [Hkeep Hsh]
      · iapply (own_shares c (gath m ρ)).2
        isplitl [Hkeep] <;> iassumption
      iexact Hs
    isplitl [Hz]; · iexact Hz
    isplitl [HzS] <;> iassumption
  iexact HO

/-! ## Loads of the staged arguments -/

/-- One head of the keys or values at a given offset. -/
abbrev headRect (off : Fin 4 → ℕ) (inb : ∀ a, off a + S1x256x1x64.size a ≤ S2x256x4x64.size a) : Rect S2x256x4x64 :=
  Rect.unit (s := S2x256x4x64) off S1x256x1x64.size inb

theorem k_load (c : Dev nD) (b : Fin 2) (h : Fin 4) {off : Fin 4 → ℕ} {inb} (hoff : off = ![b.val, 0, h.val, 0])
    {α : Type} {Q : α → sProp 𝕄} {hl : kM.view.LoadsAt (headRect off inb).toLoadRect}
    {k : ((headRect off inb).toLoadRect.shape.Idx → Elt F .bf16) → Prog (TpuEff nD τ sig (Elt F) Λ₀ .tc) α} :
    (((c : Thread nD τ).loc cc0_stg2_0) ↦{fullShare} kstg m ρ c : sProp 𝕄)
      ⊢ iprop(((((c : Thread nD τ).loc cc0_stg2_0) ↦{fullShare} kstg m ρ c) -∗ WP c (k (kv m ρ c b h)) Q)
          -∗ WP c (.op (.load kM (headRect off inb).toLoadRect hl) k) Q) := by
  subst hoff
  exact wp_load 𝒱₀ (c : Thread nD τ) none Set.univ (m := kM) (Finset.subset_univ _)

theorem v_load (c : Dev nD) (b : Fin 2) (h : Fin 4) {off : Fin 4 → ℕ} {inb} (hoff : off = ![b.val, 0, h.val, 0])
    {α : Type} {Q : α → sProp 𝕄} {hl : vM.view.LoadsAt (headRect off inb).toLoadRect}
    {k : ((headRect off inb).toLoadRect.shape.Idx → Elt F .bf16) → Prog (TpuEff nD τ sig (Elt F) Λ₀ .tc) α} :
    (((c : Thread nD τ).loc cc0_stg3_0) ↦{fullShare} vstg m ρ c : sProp 𝕄)
      ⊢ iprop(((((c : Thread nD τ).loc cc0_stg3_0) ↦{fullShare} vstg m ρ c) -∗ WP c (k (vv m ρ c b h)) Q)
          -∗ WP c (.op (.load vM (headRect off inb).toLoadRect hl) k) Q) := by
  subst hoff
  exact wp_load 𝒱₀ (c : Thread nD τ) none Set.univ (m := vM) (Finset.subset_univ _)

theorem wo_inb (o : Dev nD) : ∀ a, (![256 * o.val, 0] : Fin 2 → ℕ) a + S256x512.size a ≤ S2048x512.size a := by revert o; decide
/-- The rows of the output weights that go with device `o`'s context, as device `c` reads them. -/
def woRow (c o : Dev nD) : Vec F S256x512 .bf16 :=
  (woM).view.readAt (Elt F) (Rect.unit (s := S2048x512) ![256 * o.val, 0] S256x512.size (wo_inb o)) (wostg m ρ c)
abbrev woRect (off : Fin 2 → ℕ) (inb : ∀ a, off a + S256x512.size a ≤ S2048x512.size a) : Rect S2048x512 :=
  Rect.unit (s := S2048x512) off S256x512.size inb

theorem wo_load (c o : Dev nD) {off : Fin 2 → ℕ} {inb} (hoff : off = ![256 * o.val, 0])
    {α : Type} {Q : α → sProp 𝕄} {hl : woM.view.LoadsAt (woRect off inb).toLoadRect}
    {k : ((woRect off inb).toLoadRect.shape.Idx → Elt F .bf16) → Prog (TpuEff nD τ sig (Elt F) Λ₀ .tc) α} :
    (((c : Thread nD τ).loc cc0_stg4_0) ↦{fullShare} wostg m ρ c : sProp 𝕄)
      ⊢ iprop(((((c : Thread nD τ).loc cc0_stg4_0) ↦{fullShare} wostg m ρ c) -∗ WP c (k (woRow m ρ c o)) Q)
          -∗ WP c (.op (.load woM (woRect off inb).toLoadRect hl) k) Q) := by
  subst hoff
  exact wp_load 𝒱₀ (c : Thread nD τ) none Set.univ (m := woM) (Finset.subset_univ _)

/-- The kernel's result on device `c`. -/
def outAt (c : Dev nD) : (cc0_stg5_0 : Ref sig .tc).ty.Contents (Elt F) :=
  let a := k0_pay31 (woRow m ρ c c) (ctxRow m ρ c) (woRow m ρ c (src c 0)) (ctxRow m ρ (src c 0))
  let a := k0_pay32 a (woRow m ρ c (src c 1)) (ctxRow m ρ (src c 1))
  let a := k0_pay33 a (woRow m ρ c (src c 2)) (ctxRow m ρ (src c 2)) (woRow m ρ c (src c 3)) (ctxRow m ρ (src c 3))
  let a := k0_pay34 a (woRow m ρ c (src c 4)) (ctxRow m ρ (src c 4))
  k0_pay36 a (k0_pay35 (woRow m ρ c (src c 5)) (ctxRow m ρ (src c 5))) (woRow m ρ c (src c 6)) (ctxRow m ρ (src c 6))

end Cert.KernelIdeal.Run
-- ==== Proof.KernelIdeal.Body.lean ====
/-
The kernel's body on one device, from what the launch gives it to the result in its output buffer.
-/
module

public import proofs.«01_k».proof.Proof.KernelIdeal.Phases

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : CK → ℕ)

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 0 := Fin.ext (k0_dev8_eq c)
theorem dev9_eq (c : Dev nD) : (⟨k0_dev9 c, k0_dev9_lt c⟩ : Dev nD) = peer c 1 := Fin.ext (k0_dev9_eq c)
theorem dev10_eq (c : Dev nD) : (⟨k0_dev10 c, k0_dev10_lt c⟩ : Dev nD) = peer c 2 := Fin.ext (k0_dev10_eq c)
theorem dev11_eq (c : Dev nD) : (⟨k0_dev11 c, k0_dev11_lt c⟩ : Dev nD) = peer c 3 := Fin.ext (k0_dev11_eq c)
theorem dev12_eq (c : Dev nD) : (⟨k0_dev12 c, k0_dev12_lt c⟩ : Dev nD) = peer c 4 := Fin.ext (k0_dev12_eq c)
theorem dev13_eq (c : Dev nD) : (⟨k0_dev13 c, k0_dev13_lt c⟩ : Dev nD) = peer c 5 := Fin.ext (k0_dev13_eq c)
theorem dev14_eq (c : Dev nD) : (⟨k0_dev14 c, k0_dev14_lt c⟩ : Dev nD) = peer c 6 := Fin.ext (k0_dev14_eq c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged arguments on device `c`. -/
def Args (c : Dev nD) : sProp 𝕄 :=
  iprop((((c : Thread nD τ).loc cc0_stg0_0) ↦{fullShare} xstg m ρ c) ∗ (((c : Thread nD τ).loc cc0_stg1_0) ↦{fullShare} wqstg m ρ c)
    ∗ (((c : Thread nD τ).loc cc0_stg2_0) ↦{fullShare} kstg m ρ c) ∗ (((c : Thread nD τ).loc cc0_stg3_0) ↦{fullShare} vstg m ρ c)
    ∗ (((c : Thread nD τ).loc cc0_stg4_0) ↦{fullShare} wostg m ρ c))

theorem hz : (![0, 0, 0] : Fin 3 → Nat) = fun _ => 0 := funext fun a => by fin_cases a <;> rfl
theorem write_out {inb} (f w : (cc0_stg5_0 : Ref sig .tc).ty.Contents (Elt F)) :
    ((oM : Memref sig .tc .vmem S2x256x512 .f32).access (Rect.unit (s := S2x256x512) ![0, 0, 0] S2x256x512.size inb) : View sig .tc _ _ _).write (Elt F) f w Finset.univ = w :=
  Memref.write_access_unit_zero_univ (Elt F) cc0_stg5_0 hz _ f w

abbrev outRect {inb : ∀ k, (![0, 0, 0] : Fin 3 → ℕ) k + S2x256x512.size k ≤ S2x256x512.size k} : Rect S2x256x512 := Rect.unit (s := S2x256x512) ![0, 0, 0] S2x256x512.size inb
/-- The store of the result leaves the result. -/
theorem out_store (c : Dev nD) (g5 : (cc0_stg5_0 : Ref sig .tc).ty.Contents (Elt F)) {inb : ∀ k, (![0, 0, 0] : Fin 3 → ℕ) k + S2x256x512.size k ≤ S2x256x512.size k} (w : (outRect (inb := inb)).shape.Idx → Elt F .f32)
    (hw : w = outAt m ρ c) {hx : (oM.access (outRect (inb := inb))).Stores Finset.univ} {hm}
    {α : Type} {k : PUnit → Prog (TpuEff nD τ sig (Elt F) Λ₀ .tc) α} {Q : α → sProp 𝕄} :
    (((c : Thread nD τ).loc cc0_stg5_0) ↦{fullShare} g5)
      ⊢ iprop(((((c : Thread nD τ).loc cc0_stg5_0) ↦{fullShare} outAt m ρ c) -∗ WP c (k ⟨⟩) Q)
          -∗ WP c (.op (.store oM (outRect (inb := inb)) w Finset.univ hx hm) k) Q) := by
  subst hw
  iintro H Hk
  iapply (wp_store 𝒱₀ (c : Thread nD τ) none Set.univ (m := oM) (r := outRect (inb := inb)) (Mk := Finset.univ) (Finset.subset_univ _)) $$ H
  iintro H
  rw [write_out]
  iapply Hk; iexact H

set_option maxHeartbeats 2000000 in
/-- The body, run step by step. -/
theorem sound_body (c : Dev nD) (Kt : PUnit → sProp 𝕄) (g5 : (cc0_stg5_0 : Ref sig .tc).ty.Contents (Elt F)) :
    iprop(Φ₀ m ρ c ∗ (∃ W, owes (c : Thread nD τ) (O₀ c) W) ∗ Args m ρ c ∗ (((c : Thread nD τ).loc cc0_stg5_0) ↦{fullShare} g5)
        ∗ (Φ₁ m ρ c ∗ (∃ W, owes (c : Thread nD τ) 0 W) ∗ Args m ρ c ∗ (((c : Thread nD τ).loc cc0_stg5_0) ↦{fullShare} outAt m ρ c) -∗ Kt ⟨⟩))
      ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [cc0_body_eq_skeleton]; unfold cc0_body_skel
  unfold Φ₀ start ghost Args
  iintro ⟨⟨⟨⟨%K, #Hr, ⟨HaB, HaS, HaV⟩, HtB, HtS, HtV⟩, HcB, HcV, #Hlev⟩, ⟨%f, Hscr⟩⟩, HO, ⟨Hx, Hwq, Hk, Hv, Hwo⟩, Hout, Hend⟩
  ihave H := (start_open m ρ c f) $$ [HtB HO Hscr]
  · isplitl [HtB]; · iexact HtB
    isplitl [HO] <;> iassumption
  icases H with ⟨Hsig, Hst⟩
  -- the signals
  simp only [k0_part1_eq_skeleton]; unfold k0_part1_skel
  simp only [semSignalWord, semWaitWord, Prog.lift, Prog.bind_op, Prog.bind_ret, Prog.pure_eq_ret, wp_deviceId]
  iapply (sig_step m ρ K c 0 _ (dev1_eq c)) $$ [Hsig]
  · isplitr; · iexact Hr
    iexact Hsig
  iintro Hsig
  iapply (sig_step m ρ K c 1 _ (dev2_eq c)) $$ [Hsig]
  · isplitr; · iexact Hr
    iexact Hsig
  iintro Hsig
  iapply (sig_step m ρ K c 2 _ (dev3_eq c)) $$ [Hsig]
  · isplitr; · iexact Hr
    iexact Hsig
  iintro Hsig
  iapply (sig_step m ρ K c 3 _ (dev4_eq c)) $$ [Hsig]
  · isplitr; · iexact Hr
    iexact Hsig
  iintro Hsig
  iapply (sig_step m ρ K c 4 _ (dev5_eq c)) $$ [Hsig]
  · isplitr; · iexact Hr
    iexact Hsig
  iintro Hsig
  simp only [k0_part2_eq_skeleton]; unfold k0_part2_skel
  simp only [semSignalWord, semWaitWord, Prog.lift, Prog.bind_op, Prog.bind_ret, Prog.pure_eq_ret, wp_deviceId]
  iapply (sig_step m ρ K c 5 _ (dev6_eq c)) $$ [Hsig]
  · isplitr; · iexact Hr
    iexact Hsig
  iintro Hsig
  iapply (sig_step m ρ K c 6 _ (dev7_eq c)) $$ [Hsig]
  · isplitr; · iexact Hr
    iexact Hsig
  iintro Hsig
  iapply (bar_wait m ρ K c) $$ [Hsig HcB HaB]
  · isplitr; · iexact Hr
    isplitr; · iexact Hlev
    isplitl [Hsig]; · iexact Hsig
    isplitl [HcB] <;> iassumption
  iintro ⟨HO, Hz, Hp⟩
  -- the query rows
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  simp only [k0_part3_eq_skeleton]; unfold k0_part3_skel
  simp only [semSignalWord, semWaitWord, Prog.lift, Prog.bind_op, Prog.bind_ret, Prog.pure_eq_ret, wp_deviceId]
  -- the eight blocks of the context
  simp only [k0_part4_eq_skeleton]; unfold k0_part4_skel
  simp only [semSignalWord, semWaitWord, Prog.lift, Prog.bind_op, Prog.bind_ret, Prog.pure_eq_ret, wp_deviceId]
  iapply (k_load m ρ c 0 0 rfl) $$ Hk; iintro Hk
  iapply (v_load m ρ c 0 0 rfl) $$ Hv; iintro Hv
  simp only [k0_part5_eq_skeleton]; unfold k0_part5_skel
  simp only [semSignalWord, semWaitWord, Prog.lift, Prog.bind_op, Prog.bind_ret, Prog.pure_eq_ret, wp_deviceId]
  iapply (blk_load m ρ c 0 (congrFun (k0_off2_eq c) 0)) $$ Hst; iintro %w Hst
  iapply (blk_store m ρ c 0 0 1 rfl rfl (k0_off2_eq c) rfl) $$ Hst; iintro Hst
  iapply (k_load m ρ c 0 1 rfl) $$ Hk; iintro Hk
  iapply (v_load m ρ c 0 1 rfl) $$ Hv; iintro Hv
  iapply (blk_load m ρ c 1 (congrFun (k0_off3_eq c) 0)) $$ Hst; iintro %w Hst
  iapply (blk_store m ρ c 1 1 2 rfl rfl (k0_off3_eq c) rfl) $$ Hst; iintro Hst
  simp only [k0_part6_eq_skeleton]; unfold k0_part6_skel
  simp only [semSignalWord, semWaitWord, Prog.lift, Prog.bind_op, Prog.bind_ret, Prog.pure_eq_ret, wp_deviceId]
  iapply (k_load m ρ c 0 2 rfl) $$ Hk; iintro Hk
  iapply (v_load m ρ c 0 2 rfl) $$ Hv; iintro Hv
  iapply (blk_load m ρ c 2 (congrFun (k0_off4_eq c) 0)) $$ Hst; iintro %w Hst
  iapply (blk_store m ρ c 2 2 3 rfl rfl (k0_off4_eq c) rfl) $$ Hst; iintro Hst
  iapply (k_load m ρ c 0 3 rfl) $$ Hk; iintro Hk
  simp only [k0_part7_eq_skeleton]; unfold k0_part7_skel
  simp only [semSignalWord, semWaitWord, Prog.lift, Prog.bind_op, Prog.bind_ret, Prog.pure_eq_ret, wp_deviceId]
  iapply (v_load m ρ c 0 3 rfl) $$ Hv; iintro Hv
  iapply (blk_load m ρ c 3 (congrFun (k0_off5_eq c) 0)) $$ Hst; iintro %w Hst
  iapply (blk_store m ρ c 3 3 4 rfl rfl (k0_off5_eq c) rfl) $$ Hst; iintro Hst
  iapply (k_load m ρ c 1 0 rfl) $$ Hk; iintro Hk
  iapply (v_load m ρ c 1 0 rfl) $$ Hv; iintro Hv
  simp only [k0_part8_eq_skeleton]; unfold k0_part8_skel
  simp only [semSignalWord, semWaitWord, Prog.lift, Prog.bind_op, Prog.bind_ret, Prog.pure_eq_ret, wp_deviceId]
  iapply (blk_load m ρ c 4 (congrFun (k0_off6_eq c) 0)) $$ Hst; iintro %w Hst
  iapply (blk_store m ρ c 4 4 5 rfl rfl (k0_off6_eq c) rfl) $$ Hst; iintro Hst
  iapply (k_load m ρ c 1 1 rfl) $$ Hk; iintro Hk
  iapply (v_load m ρ c 1 1 rfl) $$ Hv; iintro Hv
  iapply (blk_load m ρ c 5 (congrFun (k0_off7_eq c) 0)) $$ Hst; iintro %w Hst
  iapply (blk_store m ρ c 5 5 6 rfl rfl (k0_off7_eq c) rfl) $$ Hst; iintro Hst
  simp only [k0_part9_eq_skeleton]; unfold k0_part9_skel
  simp only [semSignalWord, semWaitWord, Prog.lift, Prog.bind_op, Prog.bind_ret, Prog.pure_eq_ret, wp_deviceId]
  iapply (k_load m ρ c 1 2 rfl) $$ Hk; iintro Hk
  iapply (v_load m ρ c 1 2 rfl) $$ Hv; iintro Hv
  iapply (blk_load m ρ c 6 (congrFun (k0_off8_eq c) 0)) $$ Hst; iintro %w Hst
  iapply (blk_store m ρ c 6 6 7 rfl rfl (k0_off8_eq c) rfl) $$ Hst; iintro Hst
  iapply (k_load m ρ c 1 3 rfl) $$ Hk; iintro Hk
  simp only [k0_part10_eq_skeleton]; unfold k0_part10_skel
  simp only [semSignalWord, semWaitWord, Prog.lift, Prog.bind_op, Prog.bind_ret, Prog.pure_eq_ret, wp_deviceId]
  iapply (v_load m ρ c 1 3 rfl) $$ Hv; iintro Hv
  iapply (blk_load m ρ c 7 (congrFun (k0_off9_eq c) 0)) $$ Hst; iintro %w Hst
  iapply (blk_store m ρ c 7 7 8 rfl rfl (k0_off9_eq c) rfl) $$ Hst; iintro Hst
  -- the sends
  ihave H := (send_open m ρ c) $$ [HO Hst Hp HtS HtV]
  · isplitl [HO]; · iexact HO
    isplitl [Hst]; · iexact Hst
    isplitl [Hp]; · iexact Hp
    isplitl [HtS] <;> iassumption
  icases H with ⟨Hsend, Hkeep⟩
  iapply (send_step m ρ K c 0 _ (dev8_eq c) _ _ rfl rfl) $$ [Hsend]
  · isplitr; · iexact Hr
    iexact Hsend
  iintro Hsend
  simp only [k0_part11_eq_skeleton]; unfold k0_part11_skel
  simp only [semSignalWord, semWaitWord, Prog.lift, Prog.bind_op, Prog.bind_ret, Prog.pure_eq_ret, wp_deviceId]
  iapply (send_step m ρ K c 1 _ (dev9_eq c) _ _ rfl rfl) $$ [Hsend]
  · isplitr; · iexact Hr
    iexact Hsend
  iintro Hsend
  iapply (send_step m ρ K c 2 _ (dev10_eq c) _ _ rfl rfl) $$ [Hsend]
  · isplitr; · iexact Hr
    iexact Hsend
  iintro Hsend
  iapply (send_step m ρ K c 3 _ (dev11_eq c) _ _ rfl rfl) $$ [Hsend]
  · isplitr; · iexact Hr
    iexact Hsend
  iintro Hsend
  simp only [k0_part12_eq_skeleton]; unfold k0_part12_skel
  simp only [semSignalWord, semWaitWord, Prog.lift, Prog.bind_op, Prog.bind_ret, Prog.pure_eq_ret, wp_deviceId]
  iapply (send_step m ρ K c 4 _ (dev12_eq c) _ _ rfl rfl) $$ [Hsend]
  · isplitr; · iexact Hr
    iexact Hsend
  iintro Hsend
  iapply (send_step m ρ K c 5 _ (dev13_eq c) _ _ rfl rfl) $$ [Hsend]
  · isplitr; · iexact Hr
    iexact Hsend
  iintro Hsend
  simp only [k0_part13_eq_skeleton]; unfold k0_part13_skel
  simp only [semSignalWord, semWaitWord, Prog.lift, Prog.bind_op, Prog.bind_ret, Prog.pure_eq_ret, wp_deviceId]
  iapply (send_step m ρ K c 6 _ (dev14_eq c) _ _ rfl rfl) $$ [Hsend]
  · isplitr; · iexact Hr
    iexact Hsend
  iintro Hsend
  ihave H := (wait_open m ρ c) $$ [Hsend HcV HaV]
  · isplitl [Hsend]; · iexact Hsend
    isplitl [HcV] <;> iassumption
  icases H with ⟨Hrecv, HcS⟩
  -- the products, each after its transfer has come
  iapply (wo_load m ρ c c (k0_off11_eq c)) $$ Hwo; iintro Hwo
  iapply (slot_load m ρ c c _ (k0_off12_eq c)) $$ Hkeep; iintro Hkeep
  iapply (recv_wait m ρ K c 0 _ rfl) $$ [Hrecv]
  · isplitr; · iexact Hr
    iexact Hrecv
  iintro Hrecv
  iapply (wo_load m ρ c (src c 0) (k0_off13_eq c 0)) $$ Hwo; iintro Hwo
  iapply (recv_load m ρ c 0 _ (by decide) (k0_off14_eq c 0)) $$ Hrecv; iintro Hrecv
  simp only [k0_part14_eq_skeleton]; unfold k0_part14_skel
  simp only [semSignalWord, semWaitWord, Prog.lift, Prog.bind_op, Prog.bind_ret, Prog.pure_eq_ret, wp_deviceId]
  iapply (recv_wait m ρ K c 1 _ rfl) $$ [Hrecv]
  · isplitr; · iexact Hr
    iexact Hrecv
  iintro Hrecv
  iapply (wo_load m ρ c (src c 1) (k0_off13_eq c 1)) $$ Hwo; iintro Hwo
  iapply (recv_load m ρ c 1 _ (by decide) (k0_off14_eq c 1)) $$ Hrecv; iintro Hrecv
  iapply (recv_wait m ρ K c 2 _ rfl) $$ [Hrecv]
  · isplitr; · iexact Hr
    iexact Hrecv
  iintro Hrecv
  simp only [k0_part15_eq_skeleton]; unfold k0_part15_skel
  simp only [semSignalWord, semWaitWord, Prog.lift, Prog.bind_op, Prog.bind_ret, Prog.pure_eq_ret, wp_deviceId]
  iapply (wo_load m ρ c (src c 2) (k0_off13_eq c 2)) $$ Hwo; iintro Hwo
  iapply (recv_load m ρ c 2 _ (by decide) (k0_off14_eq c 2)) $$ Hrecv; iintro Hrecv
  iapply (recv_wait m ρ K c 3 _ rfl) $$ [Hrecv]
  · isplitr; · iexact Hr
    iexact Hrecv
  iintro Hrecv
  iapply (wo_load m ρ c (src c 3) (k0_off13_eq c 3)) $$ Hwo; iintro Hwo
  iapply (recv_load m ρ c 3 _ (by decide) (k0_off14_eq c 3)) $$ Hrecv; iintro Hrecv
  simp only [k0_part16_eq_skeleton]; unfold k0_part16_skel
  simp only [semSignalWord, semWaitWord, Prog.lift, Prog.bind_op, Prog.bind_ret, Prog.pure_eq_ret, wp_deviceId]
  iapply (recv_wait m ρ K c 4 _ rfl) $$ [Hrecv]
  · isplitr; · iexact Hr
    iexact Hrecv
  iintro Hrecv
  iapply (wo_load m ρ c (src c 4) (k0_off13_eq c 4)) $$ Hwo; iintro Hwo
  iapply (recv_load m ρ c 4 _ (by decide) (k0_off14_eq c 4)) $$ Hrecv; iintro Hrecv
  iapply (recv_wait m ρ K c 5 _ rfl) $$ [Hrecv]
  · isplitr; · iexact Hr
    iexact Hrecv
  iintro Hrecv
  iapply (wo_load m ρ c (src c 5) (k0_off13_eq c 5)) $$ Hwo; iintro Hwo
  iapply (recv_load m ρ c 5 _ (by decide) (k0_off14_eq c 5)) $$ Hrecv; iintro Hrecv
  simp only [k0_part17_eq_skeleton]; unfold k0_part17_skel
  simp only [semSignalWord, semWaitWord, Prog.lift, Prog.bind_op, Prog.bind_ret, Prog.pure_eq_ret, wp_deviceId]
  iapply (recv_wait m ρ K c 6 _ rfl) $$ [Hrecv]
  · isplitr; · iexact Hr
    iexact Hrecv
  iintro Hrecv
  iapply (wo_load m ρ c (src c 6) (k0_off13_eq c 6)) $$ Hwo; iintro Hwo
  iapply (recv_load m ρ c 6 _ (by decide) (k0_off14_eq c 6)) $$ Hrecv; iintro Hrecv
  iapply (wp_load 𝒱₀ (c : Thread nD τ) none Set.univ (m := oM) (Finset.subset_univ _)) $$ Hout; iintro Hout
  iapply (out_store m ρ c g5 _ rfl) $$ Hout; iintro Hout
  -- the ends of the sends
  ihave H := (drain_open m ρ c) $$ [Hrecv HcS HaS]
  · isplitl [Hrecv]; · iexact Hrecv
    isplitl [HcS] <;> iassumption
  icases H with ⟨Hdrain, Hgot⟩
  iapply (drain_wait m ρ K c 0 _ rfl) $$ [Hdrain]
  · isplitr; · iexact Hr
    iexact Hdrain
  iintro Hdrain
  simp only [k0_part18_eq_skeleton]; unfold k0_part18_skel
  simp only [semSignalWord, semWaitWord, Prog.lift, Prog.bind_op, Prog.bind_ret, Prog.pure_eq_ret, wp_deviceId]
  iapply (drain_wait m ρ K c 1 _ rfl) $$ [Hdrain]
  · isplitr; · iexact Hr
    iexact Hdrain
  iintro Hdrain
  iapply (drain_wait m ρ K c 2 _ rfl) $$ [Hdrain]
  · isplitr; · iexact Hr
    iexact Hdrain
  iintro Hdrain
  iapply (drain_wait m ρ K c 3 _ rfl) $$ [Hdrain]
  · isplitr; · iexact Hr
    iexact Hdrain
  iintro Hdrain
  iapply (drain_wait m ρ K c 4 _ rfl) $$ [Hdrain]
  · isplitr; · iexact Hr
    iexact Hdrain
  iintro Hdrain
  iapply (drain_wait m ρ K c 5 _ rfl) $$ [Hdrain]
  · isplitr; · iexact Hr
    iexact Hdrain
  iintro Hdrain
  iapply (drain_wait m ρ K c 6 _ rfl) $$ [Hdrain]
  · isplitr; · iexact Hr
    iexact Hdrain
  iintro Hdrain
  ihave H := (finish m ρ c) $$ [Hdrain Hgot Hkeep Hz]
  · isplitl [Hdrain]; · iexact Hdrain
    isplitl [Hgot]; · iexact Hgot
    isplitl [Hkeep] <;> iassumption
  icases H with ⟨HΦ, HO⟩
  unfold WP; rw [wp_ret]; imodintro
  iapply Hend
  isplitl [HΦ]; · iexact HΦ
  isplitl [HO]; · iexact HO
  isplitr [Hout]
  · isplitl [Hx]; · iexact Hx
    isplitl [Hwq]; · iexact Hwq
    isplitl [Hk]; · iexact Hk
    isplitl [Hv] <;> iassumption
  iexact Hout

end Cert.KernelIdeal.Run
-- ==== Proof.KernelIdeal.Launch.lean ====
/-
The launch: what the kernel starts with dealt to the devices, and the run of the whole program.
-/
module

public import proofs.«01_k».proof.Proof.Gen.KernelIdeal.Points
public import proofs.«01_k».proof.Proof.KernelIdeal.Body
public import Idealize.ShloMosaic.Lib.Pipeline.CollectiveSegs
public import Idealize.ShloMosaic.Lib.Pipeline.ValueKit

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m ρ c ∗ (dats m ρ 0 c).owesAt () t₀.succ
    ∗ stg c cc0_stg0_0 (xstg m ρ c) ∗ stg c cc0_stg1_0 (wqstg m ρ c) ∗ stg c cc0_stg2_0 (kstg m ρ c)
    ∗ stg c cc0_stg3_0 (vstg m ρ c) ∗ stg c cc0_stg4_0 (wostg m ρ c) ∗ stg c cc0_stg5_0 (outAt m ρ c))

/-- Before the only point an argument's staging buffer holds the argument. -/
theorem before_x (c : Dev nD) (d) : (dats m ρ 0 c).before (0 : Fin 6) t₀ d = xstg m ρ c := by
  unfold Dat.before; rw [if_pos (fetch0_0 t₀)]; rfl
theorem before_wq (c : Dev nD) (d) : (dats m ρ 0 c).before (1 : Fin 6) t₀ d = wqstg m ρ c := by
  unfold Dat.before; rw [if_pos (fetch0_1 t₀)]; rfl
theorem before_k (c : Dev nD) (d) : (dats m ρ 0 c).before (2 : Fin 6) t₀ d = kstg m ρ c := by
  unfold Dat.before; rw [if_pos (fetch0_2 t₀)]; rfl
theorem before_v (c : Dev nD) (d) : (dats m ρ 0 c).before (3 : Fin 6) t₀ d = vstg m ρ c := by
  unfold Dat.before; rw [if_pos (fetch0_3 t₀)]; rfl
theorem before_wo (c : Dev nD) (d) : (dats m ρ 0 c).before (4 : Fin 6) t₀ d = wostg m ρ c := by
  unfold Dat.before; rw [if_pos (fetch0_4 t₀)]; rfl

theorem stg_intro (c : Dev nD) (b : Ref sig .tc) (X : b.ty.Contents (Elt F)) :
    ((((c : Thread nD τ).loc b) ↦{fullShare} X) : sProp 𝕄) ⊢ stg c b X := by
  iintro H; iexists X; isplitr; · (ipureintro; rfl)
  iexact H

theorem body_run (c : Dev nD) :
    bodyPre m ρ c ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) (fun _ => bodyPost m ρ c) := by
  unfold bodyPre
  simp only [before_x, before_wq, before_k, before_v, before_wo]
  iintro ⟨HΦ, Ho, ⟨%d0, %f0, %h0, Hx⟩, ⟨%d1, %f1, %h1, Hwq⟩, ⟨%d2, %f2, %h2, Hk⟩, ⟨%d3, %f3, %h3, Hv⟩, ⟨%d4, %f4, %h4, Hwo⟩, ⟨%d5, %f5, %h5, Hout⟩⟩
  subst h0; subst h1; subst h2; subst h3; subst h4
  unfold Dat.owesAt Pipeline.owesWithin
  icases Ho with ⟨%W, %hW, HO⟩
  rw [show (dats (F := F) m ρ 0 c).owed t₀.castSucc = O₀ c from rfl]
  iapply (sound_body m ρ c (fun _ => bodyPost m ρ c) f5)
  isplitl [HΦ]; · iexact HΦ
  isplitl [HO]; · iexists W; iexact HO
  isplitl [Hx Hwq Hk Hv Hwo]
  · unfold Args
    isplitl [Hx]; · iexact Hx
    isplitl [Hwq]; · iexact Hwq
    isplitl [Hk]; · iexact Hk
    isplitl [Hv] <;> iassumption
  isplitl [Hout]; · iexact Hout
  unfold Args
  iintro ⟨HΦ, ⟨%W', HO⟩, ⟨Hx, Hwq, Hk, Hv, Hwo⟩, Hout⟩
  unfold bodyPost Dat.owesAt Pipeline.owesWithin
  rw [show (dats (F := F) m ρ 0 c).owed t₀.succ = 0 from rfl]
  isplitl [HΦ]; · iexact HΦ
  isplitl [HO]
  · iexists W'; isplitr; · (ipureintro; exact fun _ _ => Or.inl trivial)
    iexact HO
  isplitl [Hx]; · iapply (stg_intro c cc0_stg0_0); iexact Hx
  isplitl [Hwq]; · iapply (stg_intro c cc0_stg1_0); iexact Hwq
  isplitl [Hk]; · iapply (stg_intro c cc0_stg2_0); iexact Hk
  isplitl [Hv]; · iapply (stg_intro c cc0_stg3_0); iexact Hv
  isplitl [Hwo]; · iapply (stg_intro c cc0_stg4_0); iexact Hwo
  iapply (stg_intro c cc0_stg5_0); iexact Hout

theorem body_obligation (c : Dev nD) : BodyObligation (dats (F := F) m ρ 0 c) (defs₀ (F := F)) 𝒱₀ () Set.univ := fun t => by
  rw [fin_N t]
  rw [bigSep_W, bigSep_W]
  simp only [owns_whole_eq]
  exact body_run m ρ c

/-! ## What the launch deals -/

theorem ownSemFacts : Pipeline.OwnSemFacts cfg0.spec osem := by decide

theorem share_eq (c : Dev nD) (w : Fin cfg0.W) : (dats (F := F) m ρ 0 c).share w = fullShare := by unfold Dat.share; split <;> rfl

theorem kcell_injective : Function.Injective (kcell : CK → GSem nD τ sig) := by
  rintro ⟨c, k⟩ ⟨c', k'⟩ h
  have h1 : c = c' := congrArg (fun g : GSem nD τ sig => g.1.1) h
  have h2 : k = k' := csem_inj (congrArg Prod.snd h)
  subst h1; subst h2; rfl
def ringCells : Finset (GSem nD τ sig) := Finset.univ.map ⟨kcell, kcell_injective⟩

/-- A duty of a device's own cells: of its barrier the seven, of each send and each receive the one. -/
abbrev DK : Type := Fin 7 ⊕ (Fin 7 ⊕ Fin 7)
abbrev dcell : DK → SemLoc sig × Fin 7
  | .inl d => (.reg barS, d)
  | .inr i => (osem i, 0)
theorem dcell_inj : Function.Injective dcell := by decide
abbrev tokOf (cj : Dev nD × DK) : GSem nD τ sig × ℕ × Fin 7 := (((cj.1 : Thread nD τ), (dcell cj.2).1), 0, (dcell cj.2).2)
theorem tokOf_injective : Function.Injective (tokOf : Dev nD × DK → GSem nD τ sig × ℕ × Fin 7) := by
  rintro ⟨c, j⟩ ⟨c', j'⟩ h
  have h1 : c = c' := congrArg (fun x : GSem nD τ sig × ℕ × Fin 7 => x.1.1.1) h
  have h2 : j = j' := dcell_inj (congrArg (fun x : GSem nD τ sig × ℕ × Fin 7 => (x.1.2, x.2.2)) h)
  subst h1; subst h2; rfl
def ringToks : Finset (GSem nD τ sig × ℕ × Fin 7) := Finset.univ.map ⟨tokOf, tokOf_injective⟩

def u₀ : UU := (initOf (Pipeline.cells cfgs cellOf_inj) (Pipeline.launchToks cfgs cellOf_inj), initOf ringCells ringToks)

/-- The tokens of the duties of device `c`'s own cells. -/
def toks (c : Dev nD) : sProp 𝕄 :=
  iprop((bigSep Finset.univ fun d => dutyTok ER (barCell c) 0 d)
    ∗ (bigSep Finset.univ fun j => dutyTok ER (sendCell c j) 0 0) ∗ bigSep Finset.univ fun j => dutyTok ER (recvCell c j) 0 0)

def G (c : Dev nD) : sProp 𝕄 :=
  iprop((bigSep Finset.univ fun k => roundState ER (ringRd m ρ) (kcell (c, k)) 0)
    ∗ (bigSep Finset.univ fun k => iprop(atPos ER (kcell (c, k)) 0 ∅ 0 ∗ reached ER (kcell (c, k)) 0)) ∗ toks c)
def G' (c : Dev nD) : sProp 𝕄 := iprop(∃ K, ghost m ρ K c)

/-- A family over the protocol's semaphores, part by part. -/
theorem bigSep_sems (Φ : Unit ⊕ (Fin 7 ⊕ Fin 7) → sProp 𝕄) : bigSep Finset.univ Φ
    = iprop(Φ (.inl ()) ∗ bigSep Finset.univ fun i => Φ (.inr i)) := by
  rw [bigSep_univ_sum, show (Finset.univ : Finset Unit) = {()} from rfl, bigSep_singleton]; rfl
theorem bigSep_own (Φ : Fin 7 ⊕ Fin 7 → sProp 𝕄) : bigSep Finset.univ Φ
    = iprop((bigSep Finset.univ fun j => Φ (.inl j)) ∗ bigSep Finset.univ fun j => Φ (.inr j)) := bigSep_univ_sum Φ
theorem bigSep_duties (Φ : DK → sProp 𝕄) : bigSep Finset.univ Φ
    = iprop((bigSep Finset.univ fun d => Φ (.inl d)) ∗ (bigSep Finset.univ fun j => Φ (.inr (.inl j))) ∗ bigSep Finset.univ fun j => Φ (.inr (.inr j))) := by
  rw [bigSep_univ_sum, bigSep_own]; rfl

theorem over_cells (Φ : GSem nD τ sig → sProp 𝕄) : bigSep ringCells Φ
    = bigSep Finset.univ fun c : Dev nD => bigSep Finset.univ fun k => Φ (kcell (c, k)) := by
  unfold ringCells; rw [bigSep_map, bigSep_univ_prod]; rfl
theorem over_toks : (bigSep ringToks fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_duties]; rfl

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-- Only the barrier semaphore is not the kernel's own. -/
theorem unscoped_eq (c : Dev nD) : (unscopedSems0 c : sProp 𝕄) = semVal (barCell c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = bigSep Finset.univ (fun i => semVal ((c : Thread nD τ), osem i) 0) := rfl

theorem cell_invs (c : Dev nD) :
    iprop((bigSep Finset.univ fun k => semVal (kcell (c, k)) 0) ∗ bigSep Finset.univ fun k => roundState ER (ringRd m ρ) (kcell (c, k)) 0)
      ⊢ (|={Set.univ}=> bigSep Finset.univ fun k => iprop(∃ κ : ℕ, cellInv ER (ringRd m ρ) κ (kcell (c, k))) : sProp 𝕄) := by
  rw [← bigSep_sep']
  exact (bigSep_mono fun k _ => (Rounds.body_intro ER (ringRd m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  rw [own_eq, unscoped_eq]
  iintro ⟨Hos, Hus, Hst, Hat, Htok⟩
  imod (cell_invs m ρ c) $$ [Hos Hus Hst] with Hinv
  · isplitl [Hos Hus]
    · rw [bigSep_sems]
      isplitl [Hus] <;> iassumption
    iexact Hst
  imodintro
  isplitl [Hinv]; · iexact Hinv
  isplitl [Hat] <;> iassumption

/-! ## The duty tokens, each to the device that pays the duty -/

/-- Both ends of a signal: its payer with its distance, its receiver with the distance back. -/
def sigEnds : Dev nD × Fin 7 ≃ Dev nD × Fin 7 where
  toFun x := (peer x.1 x.2, rev x.2)
  invFun x := (peer x.1 x.2, rev x.2)
  left_inv x := Prod.ext (peer_rev x.1 x.2) (rev_rev x.2)
  right_inv x := Prod.ext (peer_rev x.1 x.2) (rev_rev x.2)
/-- Both ends of a transfer, at its distance. -/
def xferEnds : Dev nD × Fin 7 ≃ Dev nD × Fin 7 where
  toFun x := (peer x.1 x.2, x.2)
  invFun x := (src x.1 x.2, x.2)
  left_inv x := Prod.ext (src_peer x.1 x.2) rfl
  right_inv x := Prod.ext (peer_src x.1 x.2) rfl

/-- A family over devices and distances, dealt along a bijection. -/
theorem deal (e : Dev nD × Fin 7 ≃ Dev nD × Fin 7) (Φ : Dev nD × Fin 7 → sProp 𝕄) :
    (bigSep Finset.univ fun c => bigSep Finset.univ fun j => Φ (c, j)) = bigSep Finset.univ fun c => bigSep Finset.univ fun j => Φ (e (c, j)) := by
  rw [← bigSep_univ_prod Φ, bigSep_univ_equiv e Φ, bigSep_univ_prod]

/-- The tokens of the duties device `c` pays. -/
def payToks (c : Dev nD) : sProp 𝕄 :=
  iprop((bigSep Finset.univ fun j => dutyTok ER (barCell (peer c j)) 0 (rev j))
    ∗ (bigSep Finset.univ fun j => dutyTok ER (sendCell c j) 0 0) ∗ bigSep Finset.univ fun j => dutyTok ER (recvCell (peer c j) j) 0 0)

theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    deal sigEnds (fun x => (dutyTok ER (barCell x.1) 0 x.2 : sProp 𝕄)),
    deal xferEnds (fun x => (dutyTok ER (recvCell x.1 x.2) 0 0 : sProp 𝕄))]
  exact Entails.refl _

/-- What stays with device `c`: its positions, and the tokens of the duties it pays. -/
def mine (c : Dev nD) : sProp 𝕄 := iprop((bigSep Finset.univ fun k => atPos ER (kcell (c, k)) 0 ∅ 0) ∗ payToks c)

theorem ghost_intro (K : CK → ℕ) (c : Dev nD) : iprop(recs m ρ K ∗ mine c) ⊢ G' m ρ c := by
  unfold mine payToks G' ghost
  rw [bigSep_sems, bigSep_own]
  iintro ⟨HR, ⟨HaB, HaS, HaV⟩, HtB, HtS, HtV⟩
  iexists K
  isplitl [HR]; · iexact HR
  isplitl [HaB HaS HaV]
  · isplitl [HaB]; · iexact HaB
    isplitl [HaS] <;> iassumption
  isplitl [HtB]; · iexact HtB
  isplitl [HtS] <;> iassumption

theorem ghosts_intro (K : CK → ℕ) : iprop(recs m ρ K ∗ bigSep Finset.univ (fun c : Dev nD => mine (F := F) c)) ⊢ bigSep Finset.univ (G' m ρ) :=
  (sep_mono_left (BI.bigSep_of_persistent Finset.univ (recs m ρ K))).trans (by rw [← bigSep_sep']; exact bigSep_mono fun c _ => ghost_intro m ρ K c)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : CK => iprop(∃ κ : ℕ, cellInv ER (ringRd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, HR⟩, Htok⟩
  ihave HK := (BI.bigSep_exists_pi Finset.univ (fun (ck : CK) (κ : ℕ) => (cellInv ER (ringRd m ρ) κ (kcell ck) : sProp 𝕄))) $$ HI
  icases HK with ⟨%K, HI⟩
  ihave Htk := (toks_dealt (F := F)) $$ Htok
  iapply (ghosts_intro m ρ K)
  isplitl [HI HR]
  · unfold recs; isplitl [HI] <;> iassumption
  unfold mine; rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_cell_iff {a b : Dev nD} : barCell a = barCell b ↔ a = b :=
  ⟨fun h => congrArg (fun g : GSem nD τ sig => g.1.1) h, fun h => h ▸ rfl⟩
theorem recv_cell_iff {a b : Dev nD} {i j : Fin 7} : recvCell a i = recvCell b j ↔ a = b ∧ i = j :=
  ⟨fun h => ⟨congrArg (fun g : GSem nD τ sig => g.1.1) h, by
      have := csem_inj (a₁ := .inr (.inr i)) (a₂ := .inr (.inr j)) (congrArg Prod.snd h); simpa using this⟩, fun ⟨h, h'⟩ => h ▸ h' ▸ rfl⟩
theorem recv_ne_bar (j : Fin 7) : (SemLoc.dma (recvS j) : SemLoc sig) ≠ .reg barS := fun h => by cases h

/-- A sum of tallies, read at one cell. -/
theorem tally_sum (S : Finset (Fin 7)) (cell : Fin 7 → GSem nD τ sig) (k : ℕ) (g : GSem nD τ sig) :
    (∑ j ∈ S, tallyAt (cell j) () k : CellTallies nD τ sig Unit) g () = (∑ j ∈ S, if g = cell j then 1 else 0) * k := by
  rw [Finset.sum_apply, Finsupp.finset_sum_apply, Finset.sum_mul]
  refine Finset.sum_congr rfl fun j _ => ?_
  rw [tallyAt_apply, ite_mul, one_mul, zero_mul]
  simp only [and_true]

/-- Of every pair of a device and a distance, seven address a given device; -/
theorem count_bar (c : Dev nD) : (∑ d : Dev nD, ∑ j : Fin 7, if c = peer d j then 1 else 0) = 7 := by revert c; decide
/-- and one does so at a given distance. -/
theorem count_recv (c : Dev nD) (i : Fin 7) : (∑ d : Dev nD, ∑ j : Fin 7, if c = peer d j ∧ i = j then 1 else 0) = 1 := by revert c i; decide

theorem owed_at_bar (d c : Dev nD) : O₀ d (barCell c) () = ∑ j : Fin 7, if c = peer d j then 1 else 0 := by
  unfold O₀ owedRecv owedBar
  rw [Pi.add_apply, Finsupp.add_apply, tally_sum, tally_sum, fromN_zero,
    Finset.sum_eq_zero fun j _ => if_neg fun h => recv_ne_bar j (congrArg Prod.snd h).symm, zero_mul, zero_add, mul_one]
  exact Finset.sum_congr rfl fun j _ => by simp only [bar_cell_iff]
theorem owed_at_recv (d c : Dev nD) (i : Fin 7) : O₀ d (recvCell c i) () = (∑ j : Fin 7, if c = peer d j ∧ i = j then 1 else 0) * N := by
  unfold O₀ owedRecv owedBar
  rw [Pi.add_apply, Finsupp.add_apply, tally_sum, tally_sum, fromN_zero,
    Finset.sum_eq_zero (f := fun j => if recvCell c i = barCell (peer d j) then 1 else 0) fun j _ => if_neg fun h => recv_ne_bar i (congrArg Prod.snd h), zero_mul, add_zero]
  congr 1
  exact Finset.sum_congr rfl fun j _ => by simp only [recv_cell_iff]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_at_bar d c, count_bar]
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_at_recv d c j, ← Finset.sum_mul, count_recv, one_mul]

/-- The receive semaphores, among those that are not the barrier's. -/
theorem recvs_sub : Finset.univ.map ⟨fun j : Fin 7 => (SemLoc.dma (recvS j) : SemLoc sig), fun i j h => by
      have := csem_inj (a₁ := .inr (.inr i)) (a₂ := .inr (.inr j)) h; simpa using this⟩ ⊆ Finset.univ.erase (SemLoc.reg barS) := by
  intro s hs
  obtain ⟨j, -, rfl⟩ := Finset.mem_map.mp hs
  exact Finset.mem_erase.mpr ⟨recv_ne_bar j, Finset.mem_univ _⟩

theorem creds (c : Dev nD) : (Pipeline.launchCred O₀ c : sProp 𝕄)
    ⊢ iprop(cred (tallyAt (barCell c) () 7) ∗ bigSep Finset.univ (fun j => cred (tallyAt (recvCell c j) () N))) := by
  unfold Pipeline.launchCred
  rw [bigSep_univ_at _ (SemLoc.reg barS), launch_bar]
  refine sep_mono_right ((bigSep_subset recvs_sub).trans ?_)
  rw [bigSep_map]
  exact Entails.of_eq (bigSep_congr fun j _ => congrArg cred (launch_recv c j))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats (F := F) m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Φ₁ m ρ c from rfl, scopedRest0_eq, own_eq, unscoped_eq]
  unfold Φ₁
  iintro ⟨Hr, HB, HO⟩
  isplitl [HB]; · iexact HB
  isplitl [HO]; · iexact HO
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

/-- Every device's window arrays after the run. -/
def QC : PUnit × MemSt nD τ sig (Elt F) → Prop := fun r =>
  ∀ c : Dev nD, ∀ w : Fin cfg0.W, r.2.mem ((cfg0.win w).arr.view.loc (c : Thread nD τ)) = finalA m ρ c w

/-- From any memory with all counters at zero, every fair run of the eight devices ends, with the arrays
    at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Each argument's array ends as it was. -/
theorem final_arg (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- The result's array ends at what the body left in its staging buffer. -/
theorem final_out (c : Dev nD) : finalA m ρ c (5 : Fin 6) = outAt m ρ c := by
  refine (dats m ρ 0 c).arrAt_eq_of_after_last 5 t₀ (by decide +kernel) _ fun j => ?_
  blk_simp
  rfl

/-- From any memory with all counters at zero every fair run ends with each device's result at `outAt`,
    the arguments as they were, and all counters at zero. -/
theorem run_result : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (final_out m ρ c),
      (h.1 c (0 : Fin 6)).trans (final_arg m ρ c 0 rfl), (h.1 c (1 : Fin 6)).trans (final_arg m ρ c 1 rfl),
      (h.1 c (2 : Fin 6)).trans (final_arg m ρ c 2 rfl), (h.1 c (3 : Fin 6)).trans (final_arg m ρ c 3 rfl),
      (h.1 c (4 : Fin 6)).trans (final_arg m ρ c 4 rfl)⟩, h.2⟩) (run_main m ρ)

end Cert.KernelIdeal.Run

end
-- ==== Proof.Value.Attention.lean ====
/-
Block-masked attention of one head over the extended reals, as a formula: what both programs compute for each batch and head.
-/
module

public import Idealize.ShloMosaic.Lib.Pointwise

@[expose] public section

noncomputable section

namespace Cert.Attention

open Idealize.ShloMosaic

/-- Query position `i` sees key position `j` when the two lie in the same block of 64. -/
def sees (i j : Fin 256) : BitVec 1 := BitVec.ofBool (decide (i.val / 64 = j.val / 64))

variable (q k v : Fin 256 → Fin 64 → EReal)

/-- The scaled product of a query row and a key row, or the large negative number where the mask is off. -/
def score (i j : Fin 256) : EReal :=
  Scalar.select (sees i j) ((∑ d, q i d * k j d) * Ideal.ofBits FTy.f32 0x3E000000#32) (Ideal.ofBits FTy.f32 0xCE6E6B28#32)

/-- The greatest score of a query row. -/
def peak (i : Fin 256) : EReal :=
  Finset.fold max (Ideal.ofBits FTy.f32 0xFF800000#32) (fun j => score q k i j) Finset.univ

/-- The exponential of a score less its row's greatest. -/
def power (i j : Fin 256) : EReal := Ideal.exp (score q k i j - peak q k i)

/-- The weight of key `j` for query `i`. -/
def weight (i j : Fin 256) : EReal := Ideal.div (power q k i j) (∑ l, power q k i l)

/-- The context: the weighted sum of the value rows. -/
def attend (i : Fin 256) (d : Fin 64) : EReal := ∑ j, weight q k i j * v j d

/-- Every position sees itself. -/
theorem sees_self (i : Fin 256) : sees i i = 1#1 := by simp [sees]

/-- The query of batch `b` and head `h`: the activations times the head's 64 columns of the query weights. -/
def headQuery (x : (⟨3, ![2, 256, 512]⟩ : Shape).Idx → EReal) (wq : (⟨2, ![512, 2048]⟩ : Shape).Idx → EReal) (b : Fin 2) (h : Fin 32)
    (i : Fin 256) (d : Fin 64) : EReal :=
  ∑ e, x (ix3 b i e) * wq (ix2 e ⟨h.val * 64 + d.val, by omega⟩)

/-- Batch `b`, head `h` of an array of keys or values. -/
def headRows (k : (⟨4, ![2, 256, 32, 64]⟩ : Shape).Idx → EReal) (b : Fin 2) (h : Fin 32) (j : Fin 256) (d : Fin 64) : EReal := k (ix4 b j h d)

/-- Column `t` of the whole context, head `t / 64` and place `t % 64`, at batch `b` and row `i`. -/
def wholeContext (x : (⟨3, ![2, 256, 512]⟩ : Shape).Idx → EReal) (wq : (⟨2, ![512, 2048]⟩ : Shape).Idx → EReal)
    (k v : (⟨4, ![2, 256, 32, 64]⟩ : Shape).Idx → EReal) (b : Fin 2) (i : Fin 256) (t : Fin 2048) : EReal :=
  attend (headQuery x wq b ⟨t.val / 64, by omega⟩) (headRows k b ⟨t.val / 64, by omega⟩) (headRows v b ⟨t.val / 64, by omega⟩) i
    ⟨t.val % 64, Nat.mod_lt _ (by decide)⟩

end Cert.Attention

end
-- ==== Proof.Value.Kernel.lean ====
/-
The kernel's result over the extended reals at an index: each device's eight context blocks are the attention of its four heads,
and the eight partial products of the ring are the eight parts of one sum over all 2048 columns.
-/
module

public import proofs.«01_k».proof.Proof.KernelIdeal.Phases
public import proofs.«01_k».proof.Proof.Value.Attention
public import Idealize.ShloMosaic.Lib.Layout
public import Idealize.ShloMosaic.Lib.Pipeline.ValueKit

@[expose] public section

set_option maxRecDepth 16384

noncomputable section

namespace Cert.KernelIdeal.Run

open Cert.KernelIdeal Cert.KernelIdeal.Gen Idealize.ShloMosaic Idealize.ShloMosaic.TcCoe Cert.Attention

/-! ## The mask -/

theorem mw1_apply (i j : Fin 256) : mw1 (ix2 i j) = BitVec.ofNat 32 (i.val / 64) := by
  unfold mw1 k0_pay6 k0_pay2 k0_pay3 k0_pay4 k0_pay5
  pointwise
  clear j
  revert i
  decide +kernel

theorem keyBlock_apply (i j : Fin 256) : k0_pay7 (ix2 i j) = BitVec.ofNat 32 (j.val / 64) := by
  unfold k0_pay7
  pointwise
  clear i
  revert j
  decide +kernel

/-- The kernel's mask, too, is on where query and key lie in the same block. -/
theorem mw_apply (i j : Fin 256) : mw (ix2 i j) = sees i j := by
  unfold mw mw2 k0_pay8 k0_pay9 k0_pay10 k0_pay11 k0_pay12 k0_pay9
  have e : k0_pay6 k0_pay2 k0_pay3 k0_pay4 k0_pay5 = mw1 := rfl
  rw [e]
  pointwise
  rw [mw1_apply, keyBlock_apply]
  unfold sees
  have hi : i.val / 64 < 4 := by omega
  have hj : j.val / 64 < 4 := by omega
  generalize i.val / 64 = a at hi ⊢
  generalize j.val / 64 = b at hj ⊢
  revert a b
  decide +kernel

/-- The mask as the body's text groups it. -/
theorem mw_spelt : k0_pay12 mw1 mw2 k0_pay9 k0_pay10 k0_pay11 = mw := rfl

/-! ## One block of the context -/

variable (m : (ℓ : Loc nD τ sig) → Buf (Elt Ideal) ℓ) (ρ : Dev nD → PrngReg)

/-- The rows of batch `b`, local head `h`, of a device's queries, keys and values. -/
def qRows (c : Dev nD) (b : Fin 2) (h : Fin 4) (i : Fin 256) (d : Fin 64) : EReal :=
  qv m ρ c (ix2 (⟨b.val * 256 + i.val, by omega⟩ : Fin 512) (⟨h.val * 64 + d.val, by omega⟩ : Fin 256))
def kRows (c : Dev nD) (b : Fin 2) (h : Fin 4) (j : Fin 256) (d : Fin 64) : EReal := kv m ρ c b h (ix4 (0 : Fin 1) j (0 : Fin 1) d)
def vRows (c : Dev nD) (b : Fin 2) (h : Fin 4) (j : Fin 256) (d : Fin 64) : EReal := vv m ρ c b h (ix4 (0 : Fin 1) j (0 : Fin 1) d)

/-- Each of the eight blocks is the attention of its batch and head, however the kernel's text groups the steps. -/
theorem blkPay_apply (c : Dev nD) (n : Fin 8) (i : Fin 256) (d : Fin 64) :
    blkPay m ρ c n (ix3 (0 : Fin 1) i d)
      = attend (qRows m ρ c ⟨n.val / 4, by omega⟩ ⟨n.val % 4, by omega⟩) (kRows m ρ c ⟨n.val / 4, by omega⟩ ⟨n.val % 4, by omega⟩)
        (vRows m ρ c ⟨n.val / 4, by omega⟩ ⟨n.val % 4, by omega⟩) i d := by
  fin_cases n <;>
    (dsimp only [blkPay]
     pointwise [k0_pay13, k0_pay14, k0_pay15, k0_pay16, k0_pay17, k0_pay18, k0_pay19, k0_pay20, k0_pay21, k0_pay22, k0_pay23, k0_pay24,
       k0_pay25, k0_pay26, k0_pay27, k0_pay28, k0_pay29, k0_pay30, mw_spelt, mw_apply]
     simp only [attend, weight, power, peak, score, qRows, kRows, vRows]
     simp)

/-! ## What the devices read, from whole arrays -/

variable (X : (⟨3, ![2, 256, 512]⟩ : Shape).Idx → EReal) (Wq : (⟨2, ![512, 2048]⟩ : Shape).Idx → EReal)
  (K V : (⟨4, ![2, 256, 32, 64]⟩ : Shape).Idx → EReal) (Wo : (⟨2, ![2048, 512]⟩ : Shape).Idx → EReal)

/-- The devices hold copies of the activations and the weights, and each its own four heads of the keys and the values. -/
structure Holds : Prop where
  x : ∀ c : Dev nD, m ((c.tc : Thread nD τ).loc main_arg0) = X
  wq : ∀ c : Dev nD, m ((c.tc : Thread nD τ).loc main_arg1) = Wq
  k : ∀ c : Dev nD, m ((c.tc : Thread nD τ).loc main_arg2) = Layout.block ⟨4, ![2, 256, 4, 64]⟩ ⟨4, ![2, 256, 32, 64]⟩ 2 8 c K
  v : ∀ c : Dev nD, m ((c.tc : Thread nD τ).loc main_arg3) = Layout.block ⟨4, ![2, 256, 4, 64]⟩ ⟨4, ![2, 256, 32, 64]⟩ 2 8 c V
  wo : ∀ c : Dev nD, m ((c.tc : Thread nD τ).loc main_arg4) = Wo

/-- There are eight devices. -/
theorem dev_lt (c : Dev nD) : c.val < 8 := c.isLt

/-- A place counted from the start with stride one. -/
theorem from_start (n : ℕ) : 0 + 1 * n = n := by omega
/-- The same from the start `p`. -/
theorem from_place (p n q : ℕ) (h : p + n = q) : p + 1 * n = q := by omega

/-! The single block of each staged argument is the whole array. -/

theorem xstg_eq (c : Dev nD) : xstg m ρ c = m ((c.tc : Thread nD τ).loc main_arg0) :=
  funext fun i => congrArg (m ((c.tc : Thread nD τ).loc main_arg0)) (funext fun a => by fin_cases a <;> exact Fin.ext (from_start _))
theorem wqstg_eq (c : Dev nD) : wqstg m ρ c = m ((c.tc : Thread nD τ).loc main_arg1) :=
  funext fun i => congrArg (m ((c.tc : Thread nD τ).loc main_arg1)) (funext fun a => by fin_cases a <;> exact Fin.ext (from_start _))
theorem kstg_eq (c : Dev nD) : kstg m ρ c = m ((c.tc : Thread nD τ).loc main_arg2) :=
  funext fun i => congrArg (m ((c.tc : Thread nD τ).loc main_arg2)) (funext fun a => by fin_cases a <;> exact Fin.ext (from_start _))
theorem vstg_eq (c : Dev nD) : vstg m ρ c = m ((c.tc : Thread nD τ).loc main_arg3) :=
  funext fun i => congrArg (m ((c.tc : Thread nD τ).loc main_arg3)) (funext fun a => by fin_cases a <;> exact Fin.ext (from_start _))
theorem wostg_eq (c : Dev nD) : wostg m ρ c = m ((c.tc : Thread nD τ).loc main_arg4) :=
  funext fun i => congrArg (m ((c.tc : Thread nD τ).loc main_arg4)) (funext fun a => by fin_cases a <;> exact Fin.ext (from_start _))

/-- Local head `h` of device `c`'s block of an array of heads is head `4 c + h` of the array. -/
theorem block_head (c : Dev nD) (b : Fin 2) (j : Fin 256) (h : Fin 4) (d : Fin 64) :
    (Layout.block ⟨4, ![2, 256, 4, 64]⟩ ⟨4, ![2, 256, 32, 64]⟩ 2 8 c K) (ix4 b j h d)
      = K (ix4 b j ⟨c.val * 4 + h.val, by have := dev_lt c; omega⟩ d) := by
  rw [Layout.block_apply]
  refine congrArg K (funext fun a => ?_)
  fin_cases a <;> rfl

/-- The body's load of the activations reads them from the whole array. -/
theorem x_read (H : Holds m X Wq K V Wo) (c : Dev nD) (b : Fin 2) (i : Fin 256) (e : Fin 512) :
    (xM).view.readAt (Elt Ideal) (Rect.unit (s := S2x256x512) ![0, 0, 0] S2x256x512.size inb_S2x256x512_S2x256x512_0_0_0).toLoadRect (xstg m ρ c) (ix3 b i e)
      = X (ix3 b i e) := by
  rw [xstg_eq, H.x]
  exact congrArg X (funext fun a => by fin_cases a <;> exact Fin.ext (from_start _))

/-- The body's load of 256 columns of the query weights, from column `256 c` on. -/
theorem wq_read (H : Holds m X Wq K V Wo) (c : Dev nD) (e : Fin 512) (t : Fin 256) :
    (wqM).view.readAt (Elt Ideal) (Rect.unit (s := S512x2048) (k0_off1 c) S512x256.size (k0_off1_inb c)).toLoadRect (wqstg m ρ c) (ix2 e t)
      = Wq (ix2 e ⟨c.val * 256 + t.val, by have := dev_lt c; omega⟩) := by
  rw [wqstg_eq, H.wq]
  refine congrArg Wq (funext fun a => ?_)
  fin_cases a
  · exact Fin.ext ((congrArg (fun o : Fin 2 → ℕ => o 0 + 1 * e.val) (k0_off1_eq c)).trans (from_start _))
  · exact Fin.ext ((congrArg (fun o : Fin 2 → ℕ => o 1 + 1 * t.val) (k0_off1_eq c)).trans (from_place _ _ _ (by
      show 256 * c.val + t.val = c.val * 256 + t.val
      omega)))

/-- Device `c`'s queries of local head `h` are the queries of head `4 c + h`. -/
theorem qRows_eq (H : Holds m X Wq K V Wo) (c : Dev nD) (b : Fin 2) (h : Fin 4) :
    qRows m ρ c b h = headQuery X Wq b ⟨c.val * 4 + h.val, by have := dev_lt c; omega⟩ := by
  funext i d
  unfold qRows qv k0_pay1 headQuery
  pointwise
  refine Finset.sum_congr rfl fun e _ => ?_
  refine congrArg₂ (fun y z : EReal => y * z) (x_read m ρ X Wq K V Wo H c b i e) ((wq_read m ρ X Wq K V Wo H c e _).trans ?_)
  refine congrArg (fun t => Wq (ix2 e t)) (Fin.ext ?_)
  show c.val * 256 + (h.val * 64 + d.val) = (c.val * 4 + h.val) * 64 + d.val
  omega

/-- Device `c`'s keys of local head `h` are the keys of head `4 c + h`. -/
theorem kRows_eq (H : Holds m X Wq K V Wo) (c : Dev nD) (b : Fin 2) (h : Fin 4) :
    kRows m ρ c b h = headRows K b ⟨c.val * 4 + h.val, by have := dev_lt c; omega⟩ := by
  funext j d
  unfold kRows kv headRows
  rw [kstg_eq, H.k, ← block_head K c b j h d]
  exact congrArg (Layout.block ⟨4, ![2, 256, 4, 64]⟩ ⟨4, ![2, 256, 32, 64]⟩ 2 8 c K) (funext fun a => by
    fin_cases a
    · exact Fin.ext (from_place _ _ _ (Nat.add_zero _))
    · exact Fin.ext (from_start _)
    · exact Fin.ext (from_place _ _ _ (Nat.add_zero _))
    · exact Fin.ext (from_start _))

/-- Device `c`'s values of local head `h` are the values of head `4 c + h`. -/
theorem vRows_eq (H : Holds m X Wq K V Wo) (c : Dev nD) (b : Fin 2) (h : Fin 4) :
    vRows m ρ c b h = headRows V b ⟨c.val * 4 + h.val, by have := dev_lt c; omega⟩ := by
  funext j d
  unfold vRows vv headRows
  rw [vstg_eq, H.v, ← block_head V c b j h d]
  exact congrArg (Layout.block ⟨4, ![2, 256, 4, 64]⟩ ⟨4, ![2, 256, 32, 64]⟩ 2 8 c V) (funext fun a => by
    fin_cases a
    · exact Fin.ext (from_place _ _ _ (Nat.add_zero _))
    · exact Fin.ext (from_start _)
    · exact Fin.ext (from_place _ _ _ (Nat.add_zero _))
    · exact Fin.ext (from_start _))

/-- The body's load of the 256 rows of the output weights that belong to device `o`'s context. -/
theorem woRow_apply (H : Holds m X Wq K V Wo) (c o : Dev nD) (t : Fin 256) (n : Fin 512) :
    woRow m ρ c o (ix2 t n) = Wo (ix2 ⟨o.val * 256 + t.val, by have := dev_lt o; omega⟩ n) := by
  unfold woRow
  rw [wostg_eq, H.wo]
  refine congrArg Wo (funext fun a => ?_)
  fin_cases a
  · exact Fin.ext (from_place _ _ _ (by
      show 256 * o.val + t.val = o.val * 256 + t.val
      omega))
  · exact Fin.ext (from_start _)

/-! ## The gathered contexts and the result -/

/-- Row `256 b + i`, column `t` of device `o`'s gathered context is column `256 o + t` of the whole context. -/
theorem ctxRow_apply (H : Holds m X Wq K V Wo) (o : Dev nD) (b : Fin 2) (i t : Fin 256) :
    ctxRow m ρ o (ix3 (0 : Fin 1) (⟨b.val * 256 + i.val, by omega⟩ : Fin 512) t)
      = wholeContext X Wq K V b i ⟨o.val * 256 + t.val, by have := dev_lt o; omega⟩ := by
  have e : ctxRow m ρ o (ix3 (0 : Fin 1) (⟨b.val * 256 + i.val, by omega⟩ : Fin 512) t)
      = gath m ρ (ix3 o (⟨b.val * 256 + i.val, by omega⟩ : Fin 512) t) :=
    congrArg (gath m ρ) (funext fun a => by
      fin_cases a
      · exact Fin.ext (from_place _ _ _ (Nat.add_zero _))
      · exact Fin.ext (from_start _)
      · exact Fin.ext (from_start _))
  rw [e]
  show blkPay m ρ o (blkOf ⟨b.val * 256 + i.val, by omega⟩ t) (inBlk ⟨b.val * 256 + i.val, by omega⟩ t) = _
  have hn : blkOf ⟨b.val * 256 + i.val, by omega⟩ t = ⟨b.val * 4 + t.val / 64, by omega⟩ := Fin.ext (by
    show (b.val * 256 + i.val) / 256 * 4 + t.val / 64 = b.val * 4 + t.val / 64
    omega)
  have hi : inBlk ⟨b.val * 256 + i.val, by omega⟩ t = ix3 (0 : Fin 1) i (⟨t.val % 64, Nat.mod_lt _ (by decide)⟩ : Fin 64) := by
    show ix3 _ _ _ = ix3 _ _ _
    have : (⟨(b.val * 256 + i.val) % 256, Nat.mod_lt _ (by decide)⟩ : Fin 256) = i := Fin.ext (by
      show (b.val * 256 + i.val) % 256 = i.val
      omega)
    exact congrArg (fun z : Fin 256 => ix3 (0 : Fin 1) z (⟨t.val % 64, Nat.mod_lt _ (by decide)⟩ : Fin 64)) this
  rw [hn, hi, blkPay_apply]
  have hb : (⟨(b.val * 4 + t.val / 64) / 4, by omega⟩ : Fin 2) = b := Fin.ext (by
    show (b.val * 4 + t.val / 64) / 4 = b.val
    omega)
  have hh : (⟨(b.val * 4 + t.val / 64) % 4, by omega⟩ : Fin 4) = ⟨t.val / 64, by omega⟩ := Fin.ext (by
    show (b.val * 4 + t.val / 64) % 4 = t.val / 64
    omega)
  rw [hb, hh, qRows_eq m ρ X Wq K V Wo H, kRows_eq m ρ X Wq K V Wo H, vRows_eq m ρ X Wq K V Wo H]
  unfold wholeContext
  have hg : (⟨o.val * 4 + t.val / 64, by have := dev_lt o; omega⟩ : Fin 32) = ⟨(o.val * 256 + t.val) / 64, by have := dev_lt o; omega⟩ := Fin.ext (by
    show o.val * 4 + t.val / 64 = (o.val * 256 + t.val) / 64
    omega)
  have hd : (⟨t.val % 64, Nat.mod_lt _ (by decide)⟩ : Fin 64) = ⟨(o.val * 256 + t.val) % 64, Nat.mod_lt _ (by decide)⟩ := Fin.ext (by
    show t.val % 64 = (o.val * 256 + t.val) % 64
    omega)
  rw [hg, hd]

/-- A sum over all devices taken round the ring from `c`. -/
theorem ring_sum (f : Dev nD → EReal) (c : Dev nD) :
    f c + f (src c 0) + f (src c 1) + f (src c 2) + f (src c 3) + f (src c 4) + f (src c 5) + f (src c 6) = ∑ o : Fin 8, f o := by
  have s0 : ∀ c : Fin 8, c - 0 = c := by decide
  have s1 : ∀ (c : Fin 8) (j : Fin 7), c - j.succ = src c j := by decide
  rw [← (Equiv.subLeft (show Fin 8 from c)).sum_comp, Fin.sum_univ_succ, Fin.sum_univ_seven]
  simp only [Equiv.subLeft_apply, s1]
  simp only [s0, ← add_assoc]

/-- Device `c`'s result at an index, from the whole arrays. -/
theorem outAt_apply (H : Holds m X Wq K V Wo) (c : Dev nD) (b : Fin 2) (i : Fin 256) (n : Fin 512) :
    outAt m ρ c (ix3 b i n) = ∑ t : Fin 2048, wholeContext X Wq K V b i t * Wo (ix2 t n) := by
  rw [Fin.sum_univ_tiles 8 256 rfl, ← ring_sum _ c]
  unfold outAt k0_pay31 k0_pay32 k0_pay33 k0_pay34 k0_pay35 k0_pay36
  pointwise
  have part : ∀ o : Dev nD, (∑ t : Fin 256, (ctxRow m ρ o (ix3 (0 : Fin 1) (⟨b.val * 256 + i.val, by omega⟩ : Fin 512) t) : EReal) * woRow m ρ c o (ix2 t n))
      = ∑ t : Fin 256, wholeContext X Wq K V b i ⟨o.val * 256 + t.val, by have := dev_lt o; omega⟩ * Wo (ix2 ⟨o.val * 256 + t.val, by have := dev_lt o; omega⟩ n) :=
    fun o => Finset.sum_congr rfl fun t _ => congrArg₂ (fun y z : EReal => y * z) (ctxRow_apply m ρ X Wq K V Wo H o b i t) (woRow_apply m ρ X Wq K V Wo H c o t n)
  exact congrArg₂ (fun y z : EReal => y + z) (congrArg₂ (fun y z : EReal => y + z) (congrArg₂ (fun y z : EReal => y + z) (congrArg₂ (fun y z : EReal => y + z)
    (congrArg₂ (fun y z : EReal => y + z) (congrArg₂ (fun y z : EReal => y + z) (congrArg₂ (fun y z : EReal => y + z) (part c) (part (src c 0)))
      (part (src c 1))) (part (src c 2))) (part (src c 3))) (part (src c 4))) (part (src c 5))) (part (src c 6))

end Cert.KernelIdeal.Run

end
-- ==== Proof.Value.Reference.lean ====
/-
The reference's result, named piece by piece: the mask, the scores, the weights and the context, all over whole arrays.
-/
module

public import proofs.«01_k».proof.Proof.Gen.ReferenceIdeal.Run
public import proofs.«01_k».proof.Proof.Value.Attention
public import Idealize.ShloMosaic.Lib.Routing.OpsOrder

@[expose] public section

set_option maxRecDepth 16384

noncomputable section

namespace Cert.ReferenceIdeal.Pieces

open Cert.ReferenceIdeal Cert.ReferenceIdeal.Gen Idealize.ShloMosaic Idealize.ShloMosaic.TcCoe

/-- The number of the block of 64 that each of the 256 positions lies in, by a division rounding down. -/
def blockNo : IVec S256 32 :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The four that block numbers are reduced by, in the spelling of a remainder that guards against zero. -/
def four : IVec S_ 32 :=
  select (cmpi .eq (constantI S_ 32 4#32) (constantI S_ 32 0#32)) (constantI S_ 32 1#32) (constantI S_ 32 4#32)

/-- Whether that divisor is negative. -/
def fourNeg : IVec S_ 1 := cmpi .slt four (constantI S_ 32 0#32)

/-- The key positions' block numbers modulo four, as one row. -/
def keyMod : IVec S1x256 32 :=
  have r : IVec S1x256 32 := Host.remsi (broadcastInDim S1x256 ![1] bcast_S256_S1x256_1 blockNo) (broadcastInDim S1x256 ![] bcast_S_S1x256 four)
  select
    (andi (cmpi .ne (cmpi .slt r (broadcastInDim S1x256 ![] bcast_S_S1x256 (constantI S_ 32 0#32))) (broadcastInDim S1x256 ![] bcast_S_S1x256 fourNeg))
      (cmpi .ne r (broadcastInDim S1x256 ![] bcast_S_S1x256 (constantI S_ 32 0#32))))
    (addi r (broadcastInDim S1x256 ![] bcast_S_S1x256 four)) r

/-- The query positions' block numbers modulo four, as one column. -/
def queryMod : IVec S256x1 32 :=
  have r : IVec S256x1 32 := Host.remsi (broadcastInDim S256x1 ![0] bcast_S256_S256x1_0 blockNo) (broadcastInDim S256x1 ![] bcast_S_S256x1 four)
  select
    (andi (cmpi .ne (cmpi .slt r (broadcastInDim S256x1 ![] bcast_S_S256x1 (constantI S_ 32 0#32))) (broadcastInDim S256x1 ![] bcast_S_S256x1 fourNeg))
      (cmpi .ne r (broadcastInDim S256x1 ![] bcast_S_S256x1 (constantI S_ 32 0#32))))
    (addi r (broadcastInDim S256x1 ![] bcast_S_S256x1 four)) r

/-- The attention mask. -/
def mask : IVec S256x256 1 :=
  ori (cmpi .eq (broadcastInDim S256x256 ![0, 1] bcast_S256x1_S256x256_0_1 (broadcastInDim S256x1 ![0] bcast_S256_S256x1_0 blockNo))
      (broadcastInDim S256x256 ![0, 1] bcast_S1x256_S256x256_0_1 (broadcastInDim S1x256 ![1] bcast_S256_S1x256_1 blockNo)))
    (cmpi .eq (broadcastInDim S256x256 ![0, 1] bcast_S1x256_S256x256_0_1 keyMod) (broadcastInDim S256x256 ![0, 1] bcast_S256x1_S256x256_0_1 queryMod))

/-- Which query rows see any key at all. -/
def rowKeep : IVec S1x1x256x1 1 :=
  broadcastInDim S1x1x256x1 ![2] bcast_S256_S1x1x256x1_2
    (Host.reduce IntOp.ori mask (constantI S_ 1 0#1) reducesTo_S256x256_S256_d1 h_S_)

/-- The query, 32 heads of 64, rounded as the reference rounds it. -/
def query (x : FVec Ideal S2x256x512 .bf16) (wq : FVec Ideal S512x2048 .bf16) : FVec Ideal S2x256x32x64 .bf16 :=
  shapeCast _ (truncf .bf16 (Host.dotGeneral dot_S2x256x512_S512x2048_S2x256x2048_2_0_01_1_n_n none (extf .f32 x bitsLt_bf16_f32)
    (extf .f32 wq bitsLt_bf16_f32)) bitsLt_bf16_f32) shapeCasts_S2x256x2048_S2x256x32x64

/-- The masked scores of a query against keys. -/
def scores (q k : FVec Ideal S2x256x32x64 .bf16) : FVec Ideal S2x32x256x256 .f32 :=
  select (broadcastInDim S2x32x256x256 ![0, 1, 2, 3] bcast_S1x1x256x256_S2x32x256x256_0_1_2_3 (broadcastInDim S1x1x256x256 ![2, 3] bcast_S256x256_S1x1x256x256_2_3 mask))
    (mulf (extf .f32 (truncf .bf16 (Host.dotGeneral dot_S2x256x32x64_S2x256x32x64_S2x32x256x256_3_3_1_1_02_02 none (extf .f32 q bitsLt_bf16_f32)
      (extf .f32 k bitsLt_bf16_f32)) bitsLt_bf16_f32) bitsLt_bf16_f32) (broadcastInDim S2x32x256x256 ![] bcast_S_S2x32x256x256 (constant S_ .f32 0x3E000000#32)))
    (broadcastInDim S2x32x256x256 ![] bcast_S_S2x32x256x256 (constant S_ .f32 0xCE6E6B28#32))

/-- The exponentials of the scores less their row's greatest. -/
def powers (s : FVec Ideal S2x32x256x256 .f32) : FVec Ideal S2x32x256x256 .f32 :=
  Host.exp (subf s (broadcastInDim S2x32x256x256 ![0, 1, 2, 3] bcast_S2x32x256x1_S2x32x256x256_0_1_2_3 (broadcastInDim S2x32x256x1 ![0, 1, 2] bcast_S2x32x256_S2x32x256x1_0_1_2
    (Host.reduce FloatOps.maximumf s (constant S_ .f32 0xFF800000#32) reducesTo_S2x32x256x256_S2x32x256_d3 h_S_))))

/-- The weights: the exponentials over their row's sum, under the row mask. -/
def weights (e : FVec Ideal S2x32x256x256 .f32) : FVec Ideal S2x32x256x256 .f32 :=
  select (broadcastInDim S2x32x256x256 ![0, 1, 2, 3] bcast_S1x1x256x1_S2x32x256x256_0_1_2_3 rowKeep)
    (Host.divf e (broadcastInDim S2x32x256x256 ![0, 1, 2, 3] bcast_S2x32x256x1_S2x32x256x256_0_1_2_3
      (select (broadcastInDim S2x32x256x1 ![0, 1, 2, 3] bcast_S1x1x256x1_S2x32x256x1_0_1_2_3 rowKeep)
        (broadcastInDim S2x32x256x1 ![0, 1, 2] bcast_S2x32x256_S2x32x256x1_0_1_2 (Host.reduceAdd e (constant S_ .f32 0x00000000#32) reducesTo_S2x32x256x256_S2x32x256_d3 h_S_))
        (broadcastInDim S2x32x256x1 ![] bcast_S_S2x32x256x1 (constant S_ .f32 0x3F800000#32)))))
    (broadcastInDim S2x32x256x256 ![] bcast_S_S2x32x256x256 (constant S_ .f32 0x00000000#32))

/-- The context: the weighted values, heads side by side. -/
def context (w : FVec Ideal S2x32x256x256 .f32) (v : FVec Ideal S2x256x32x64 .bf16) : FVec Ideal S2x256x2048 .f32 :=
  shapeCast _ (transpose S2x256x32x64 [0, 3, 1, 2] (Host.dotGeneral dot_S2x256x32x64_S2x32x256x256_S2x32x64x256_1_3_3_2_02_01 none
    (extf .f32 v bitsLt_bf16_f32) w) transposes_S2x32x64x256_S2x256x32x64_0_3_1_2) shapeCasts_S2x256x32x64_S2x256x2048

/-- The context through the output weights. -/
def output (ctx : FVec Ideal S2x256x2048 .f32) (wo : FVec Ideal S2048x512 .bf16) : FVec Ideal S2x256x512 .f32 :=
  Host.dotGeneral dot_S2x256x2048_S2048x512_S2x256x512_2_0_01_1_n_n none ctx (extf .f32 wo bitsLt_bf16_f32)

/-- The reference's result is its pieces put together. -/
theorem result_eq (m : (ℓ : Loc nD τ sig) → Buf (Elt Ideal) ℓ) (c : Dev nD) :
    Value.res_out0 m c = output (context (weights (powers (scores (query (m ((c.tc : Thread nD τ).loc main_arg0)) (m ((c.tc : Thread nD τ).loc main_arg1)))
      (m ((c.tc : Thread nD τ).loc main_arg2))))) (m ((c.tc : Thread nD τ).loc main_arg3))) (m ((c.tc : Thread nD τ).loc main_arg4)) := by
  unfold Value.res_out0 Value.res_main_v48
  rfl

/-! ## The pieces at an index -/

open Cert.Attention

theorem blockNo_apply (i : Fin 256) : blockNo (ix1 i) = BitVec.ofNat 32 (i.val / 64) := by
  unfold blockNo
  pointwise
  revert i
  decide +kernel

/-- The mask is on where query and key lie in the same block: of the four blocks no two agree modulo four. -/
theorem mask_apply (i j : Fin 256) : mask (ix2 i j) = sees i j := by
  unfold mask keyMod queryMod fourNeg four sees
  pointwise
  rw [blockNo_apply, blockNo_apply]
  have hi : i.val / 64 < 4 := by omega
  have hj : j.val / 64 < 4 := by omega
  generalize i.val / 64 = a at hi ⊢
  generalize j.val / 64 = b at hj ⊢
  revert a b
  decide +kernel

/-- No query row is masked out: a position sees itself. -/
theorem rowKeep_apply (i : Fin 256) : rowKeep (ix4 (0 : Fin 1) (0 : Fin 1) i (0 : Fin 1)) = 1#1 := by
  unfold rowKeep
  pointwise
  rw [Routing.fold_ori]
  exact ⟨i, Finset.mem_univ _, (mask_apply i i).trans (sees_self i)⟩

theorem query_apply (x : FVec Ideal S2x256x512 .bf16) (wq : FVec Ideal S512x2048 .bf16) (b : Fin 2) (i : Fin 256) (h : Fin 32) (d : Fin 64) :
    query x wq (ix4 b i h d) = headQuery x wq b h i d := by
  unfold query
  pointwise
  rfl

theorem scores_apply (q k : FVec Ideal S2x256x32x64 .bf16) (b : Fin 2) (h : Fin 32) (i j : Fin 256) :
    scores q k (ix4 b h i j) = score (headRows q b h) (headRows k b h) i j := by
  unfold scores
  pointwise
  rw [mask_apply]
  rfl

theorem powers_apply (q k : FVec Ideal S2x256x32x64 .bf16) (b : Fin 2) (h : Fin 32) (i j : Fin 256) :
    powers (scores q k) (ix4 b h i j) = power (headRows q b h) (headRows k b h) i j := by
  unfold powers
  pointwise
  simp only [scores_apply]
  rfl

theorem weights_apply (q k : FVec Ideal S2x256x32x64 .bf16) (b : Fin 2) (h : Fin 32) (i j : Fin 256) :
    weights (powers (scores q k)) (ix4 b h i j) = weight (headRows q b h) (headRows k b h) i j := by
  unfold weights
  pointwise
  simp only [powers_apply, rowKeep_apply]
  rfl

/-- The reference's result at an index: the sum over the 2048 columns of the context, each head attended by itself. -/
theorem result_apply (x : FVec Ideal S2x256x512 .bf16) (wq : FVec Ideal S512x2048 .bf16) (k v : FVec Ideal S2x256x32x64 .bf16)
    (wo : FVec Ideal S2048x512 .bf16) (b : Fin 2) (i : Fin 256) (n : Fin 512) :
    output (context (weights (powers (scores (query x wq) k))) v) wo (ix3 b i n)
      = ∑ t : Fin 2048, wholeContext x wq k v b i t * wo (ix2 t n) := by
  unfold output context
  pointwise
  refine Finset.sum_congr rfl fun t _ => ?_
  refine congrArg (fun z : EReal => z * _) ?_
  have hw : ∀ (j : Fin 256) (h : Fin 32), weights (powers (scores (query x wq) k)) (ix4 b h i j) = _ := fun j h => weights_apply _ _ b h i j
  simp only [hw]
  have hq : ∀ h, headRows (query x wq) b h = headQuery x wq b h := fun h => by
    funext i d
    exact query_apply x wq b i h d
  simp only [hq]
  unfold wholeContext attend
  exact Finset.sum_congr rfl fun j _ => mul_comm _ _

end Cert.ReferenceIdeal.Pieces

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The kernel's frame: from every memory it runs to the end, leaves its arguments as they were and all counters at zero. -/
theorem frame_kernel : Cert.quiescent_Kernel := fun m ρ _ =>
  (θ_run (Cert.Kernel.defs (F := Bits)) _ _).mono (fun _ h => ⟨fun c => (h.1 c).2, h.2⟩) (Cert.Kernel.Run.run_result (F := Bits) m ρ)

/-- The same of the kernel over the extended reals. -/
theorem frame_kernelIdeal : Cert.quiescent_KernelIdeal := fun m ρ _ =>
  (θ_run (Cert.KernelIdeal.defs (F := Ideal)) _ _).mono (fun _ h => ⟨fun c => (h.1 c).2, h.2⟩) (Cert.KernelIdeal.Run.run_result (F := Ideal) m ρ)

/-- The same of the reference. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

/-- From arguments that agree, every device's result over the extended reals is the reference's: at each index both are the sum over
the columns of the whole context times the output weights. -/
theorem algebraic : Cert.algebraic_KernelIdeal_ReferenceIdeal := by
  intro m g m' g' _ hin
  have H : Cert.KernelIdeal.Run.Holds m _ _ _ _ _ :=
    ⟨fun c => (hin c).1, fun c => (hin c).2.1, fun c => (hin c).2.2.1, fun c => (hin c).2.2.2.1, fun c => (hin c).2.2.2.2⟩
  have same : ∀ c : Dev Cert.KernelIdeal.nD, Cert.KernelIdeal.Run.outAt m g c = Cert.ReferenceIdeal.Value.res_out0 m' 0 := by
    intro c
    rw [Cert.ReferenceIdeal.Pieces.result_eq]
    funext i
    rw [eq_ix3 i]
    exact (Cert.KernelIdeal.Run.outAt_apply m g _ _ _ _ _ H c (i 0) (i 1) (i 2)).trans
      (Cert.ReferenceIdeal.Pieces.result_apply _ _ _ _ _ (i 0) (i 1) (i 2)).symm
  exact ⟨Cert.ReferenceIdeal.Value.res_out0 m' 0,
    (θ_run (Cert.KernelIdeal.defs (F := Ideal)) _ _).mono (fun _ h c => ⟨(h.1 c).1.trans (same c), (h.1 c).2⟩)
      (Cert.KernelIdeal.Run.run_result (F := Ideal) m g),
    (θ_run (Cert.ReferenceIdeal.defs (F := Ideal)) _ _).mono (fun _ h => h 0) (Cert.ReferenceIdeal.Value.run (F := Ideal) m' g')⟩

/-- All five claims: the three frames, the reading of the kernel over the extended reals, and the equality with the reference. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
